-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S1x12x2048x64 : Shape := ⟨4, ![1, 12, 2048, 64]⟩
abbrev S768x36 : Shape := ⟨2, ![768, 36]⟩
abbrev S36 : Shape := ⟨1, ![36]⟩
abbrev S768x256 : Shape := ⟨2, ![768, 256]⟩
abbrev S32x64 : Shape := ⟨2, ![32, 64]⟩
abbrev S2048x64 : Shape := ⟨2, ![2048, 64]⟩
abbrev S64 : Shape := ⟨1, ![64]⟩
abbrev S64x64 : Shape := ⟨2, ![64, 64]⟩
abbrev S_ : Shape := ⟨0, ![]⟩

class Facts : Prop where
  bcast_S_S1x2048x768 : S_.BroadcastsInDim S1x2048x768 (![] : Fin 0 → Fin S1x2048x768.rank)
  bcast_S_S1x12x2048x64 : S_.BroadcastsInDim S1x12x2048x64 (![] : Fin 0 → Fin S1x12x2048x64.rank)
  bcast_S_S768x256 : S_.BroadcastsInDim S768x256 (![] : Fin 0 → Fin S768x256.rank)
  bcast_S_S32x64 : S_.BroadcastsInDim S32x64 (![] : Fin 0 → Fin S32x64.rank)
  bcast_S_S2048x64 : S_.BroadcastsInDim S2048x64 (![] : Fin 0 → Fin S2048x64.rank)
  bcast_S_S64 : S_.BroadcastsInDim S64 (![] : Fin 0 → Fin S64.rank)
  bcast_S_S64x64 : S_.BroadcastsInDim S64x64 (![] : Fin 0 → Fin S64x64.rank)

variable [Facts]

def fn_part1 {F : FTy → Type} [FloatOps F] (main_arg11 : FVec F S2048x64 .f32) (main_arg12 : FVec F S64 .f32) (main_arg13 : FVec F S64x64 .f32) (main_arg14 : FVec F S64 .f32) (main_v2 : IVec S1x2048x768 1) (main_v5 : IVec S1x12x2048x64 1) (main_v8 : IVec S768x256 1) (main_v11 : IVec S768x256 1) (main_v14 : IVec S768x256 1) (main_v17 : IVec S32x64 1) : IVec S1x2048x768 1 × IVec S1x12x2048x64 1 × IVec S768x256 1 × IVec S768x256 1 × IVec S768x256 1 × IVec S32x64 1 × IVec S2048x64 1 × IVec S64 1 × IVec S64x64 1 × IVec S64 1 :=
  let main_v18 : FVec F S2048x64 .f32 := Host.absf main_arg11
  let main_cst_5 : FVec F S_ .f32 := constant S_ .f32 0x7F800000#32
  let main_v19 : FVec F S2048x64 .f32 := broadcastInDim S2048x64 ![] bcast_S_S2048x64 main_cst_5
  let main_v20 : IVec S2048x64 1 := cmpf .olt main_v18 main_v19
  let main_v21 : FVec F S64 .f32 := Host.absf main_arg12
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64x64 .f32 := Host.absf main_arg13
  let main_cst_7 : FVec F S_ .f32 := constant S_ .f32 0x7F800000#32
  let main_v25 : FVec F S64x64 .f32 := broadcastInDim S64x64 ![] bcast_S_S64x64 main_cst_7
  let main_v26 : IVec S64x64 1 := cmpf .olt main_v24 main_v25
  let main_v27 : FVec F S64 .f32 := Host.absf main_arg14
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  (main_v2, main_v5, main_v8, main_v11, main_v14, main_v17, main_v20, main_v23, main_v26, main_v29)

def fn {F : FTy → Type} [FloatOps F] (main_arg0 : FVec F S1x2048x768 .f32) (main_arg1 : FVec F S1x12x2048x64 .f32) (main_arg2 : FVec F S768x36 .f32) (main_arg3 : FVec F S36 .f32) (main_arg4 : FVec F S768x256 .f32) (main_arg5 : FVec F S768x256 .f32) (main_arg6 : FVec F S768x256 .f32) (main_arg7 : FVec F S768x256 .f32) (main_arg8 : FVec F S768x256 .f32) (main_arg9 : FVec F S768x256 .f32) (main_arg10 : FVec F S32x64 .f32) (main_arg11 : FVec F S2048x64 .f32) (main_arg12 : FVec F S64 .f32) (main_arg13 : FVec F S64x64 .f32) (main_arg14 : FVec F S64 .f32) (main_arg15 : FVec F S2048x64 .f32) (main_arg16 : FVec F S64 .f32) (main_arg17 : FVec F S64x64 .f32) (main_arg18 : FVec F S64 .f32) : IVec S1x2048x768 1 × IVec S1x12x2048x64 1 × IVec S768x256 1 × IVec S768x256 1 × IVec S768x256 1 × IVec S32x64 1 × IVec S2048x64 1 × IVec S64 1 × IVec S64x64 1 × IVec S64 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S1x12x2048x64 .f32 := Host.absf main_arg1
  let main_cst_0 : FVec F S_ .f32 := constant S_ .f32 0x7F800000#32
  let main_v4 : FVec F S1x12x2048x64 .f32 := broadcastInDim S1x12x2048x64 ![] bcast_S_S1x12x2048x64 main_cst_0
  let main_v5 : IVec S1x12x2048x64 1 := cmpf .olt main_v3 main_v4
  let main_v6 : FVec F S768x256 .f32 := Host.absf main_arg4
  let main_cst_1 : FVec F S_ .f32 := constant S_ .f32 0x7F800000#32
  let main_v7 : FVec F S768x256 .f32 := broadcastInDim S768x256 ![] bcast_S_S768x256 main_cst_1
  let main_v8 : IVec S768x256 1 := cmpf .olt main_v6 main_v7
  let main_v9 : FVec F S768x256 .f32 := Host.absf main_arg6
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_v12 : FVec F S768x256 .f32 := Host.absf main_arg8
  let main_cst_3 : FVec F S_ .f32 := constant S_ .f32 0x7F800000#32
  let main_v13 : FVec F S768x256 .f32 := broadcastInDim S768x256 ![] bcast_S_S768x256 main_cst_3
  let main_v14 : IVec S768x256 1 := cmpf .olt main_v12 main_v13
  let main_v15 : FVec F S32x64 .f32 := Host.absf main_arg10
  let main_cst_4 : FVec F S_ .f32 := constant S_ .f32 0x7F800000#32
  let main_v16 : FVec F S32x64 .f32 := broadcastInDim S32x64 ![] bcast_S_S32x64 main_cst_4
  let main_v17 : IVec S32x64 1 := cmpf .olt main_v15 main_v16
  fn_part1 (F := F) main_arg11 main_arg12 main_arg13 main_arg14 main_v2 main_v5 main_v8 main_v11 main_v14 main_v17
-- ==== Kernel.lean ====
abbrev S1x2048x768 : Shape := ⟨3, ![1, 2048, 768]⟩
abbrev S1x12x2048x64 : Shape := ⟨4, ![1, 12, 2048, 64]⟩
abbrev S768x36 : Shape := ⟨2, ![768, 36]⟩
abbrev S36 : Shape := ⟨1, ![36]⟩
abbrev S768x256 : Shape := ⟨2, ![768, 256]⟩
abbrev S32x64 : Shape := ⟨2, ![32, 64]⟩
abbrev S2048x64 : Shape := ⟨2, ![2048, 64]⟩
abbrev S64 : Shape := ⟨1, ![64]⟩
abbrev S64x64 : Shape := ⟨2, ![64, 64]⟩
abbrev S2048x768 : Shape := ⟨2, ![2048, 768]⟩
abbrev S768x1572 : Shape := ⟨2, ![768, 1572]⟩
abbrev S_ : Shape := ⟨0, ![]⟩
abbrev S768x1664 : Shape := ⟨2, ![768, 1664]⟩
abbrev S1664 : Shape := ⟨1, ![1664]⟩
abbrev S1x1664 : Shape := ⟨2, ![1, 1664]⟩
abbrev S2048x1664 : Shape := ⟨2, ![2048, 1664]⟩
abbrev S256x768 : Shape := ⟨2, ![256, 768]⟩
abbrev S256x1664 : Shape := ⟨2, ![256, 1664]⟩
abbrev S2048x36 : Shape := ⟨2, ![2048, 36]⟩
abbrev S2048x3x4x3 : Shape := ⟨4, ![2048, 3, 4, 3]⟩
abbrev S4x3x2048x3 : Shape := ⟨4, ![4, 3, 2048, 3]⟩
abbrev S2048x256 : Shape := ⟨2, ![2048, 256]⟩
abbrev S2048x4x64 : Shape := ⟨3, ![2048, 4, 64]⟩
abbrev S4x2048x64 : Shape := ⟨3, ![4, 2048, 64]⟩
abbrev S128x16x4x64 : Shape := ⟨4, ![128, 16, 4, 64]⟩
abbrev S127x16x4x64 : Shape := ⟨4, ![127, 16, 4, 64]⟩
abbrev S127x32x4x64 : Shape := ⟨4, ![127, 32, 4, 64]⟩
abbrev S127x4x32x64 : Shape := ⟨4, ![127, 4, 32, 64]⟩
abbrev S508x2048 : Shape := ⟨2, ![508, 2048]⟩
abbrev S512x2048 : Shape := ⟨2, ![512, 2048]⟩
abbrev S1x2048 : Shape := ⟨2, ![1, 2048]⟩
abbrev S1x64 : Shape := ⟨2, ![1, 64]⟩
abbrev S512x64 : Shape := ⟨2, ![512, 64]⟩
abbrev S128x4x64 : Shape := ⟨3, ![128, 4, 64]⟩
abbrev S4x128x64 : Shape := ⟨3, ![4, 128, 64]⟩
abbrev S3x4x2048x64 : Shape := ⟨4, ![3, 4, 2048, 64]⟩
abbrev S4x2048x128 : Shape := ⟨3, ![4, 2048, 128]⟩
abbrev S3x1x2048x64 : Shape := ⟨4, ![3, 1, 2048, 64]⟩
abbrev S1x128x64 : Shape := ⟨3, ![1, 128, 64]⟩
abbrev S1x2048x128 : Shape := ⟨3, ![1, 2048, 128]⟩
abbrev S6144x64 : Shape := ⟨2, ![6144, 64]⟩
abbrev S128x64 : Shape := ⟨2, ![128, 64]⟩
abbrev S64x128 : Shape := ⟨2, ![64, 128]⟩
abbrev S6144x128 : Shape := ⟨2, ![6144, 128]⟩
abbrev S6144 : Shape := ⟨1, ![6144]⟩
abbrev S6144x1 : Shape := ⟨2, ![6144, 1]⟩
abbrev S3x2048x128 : Shape := ⟨3, ![3, 2048, 128]⟩
abbrev S2048x128 : Shape := ⟨2, ![2048, 128]⟩
abbrev S2048 : Shape := ⟨1, ![2048]⟩
abbrev S2048x1 : Shape := ⟨2, ![2048, 1]⟩
abbrev S128x128 : Shape := ⟨2, ![128, 128]⟩
abbrev S3x4x512x64 : Shape := ⟨4, ![3, 4, 512, 64]⟩
abbrev S3x1x512x64 : Shape := ⟨4, ![3, 1, 512, 64]⟩
abbrev S1x2048x64 : Shape := ⟨3, ![1, 2048, 64]⟩
abbrev S1x512x128 : Shape := ⟨3, ![1, 512, 128]⟩
abbrev S1x3x512x3 : Shape := ⟨4, ![1, 3, 512, 3]⟩
abbrev S1536x64 : Shape := ⟨2, ![1536, 64]⟩
abbrev S1x512x64 : Shape := ⟨3, ![1, 512, 64]⟩
abbrev S64x512 : Shape := ⟨2, ![64, 512]⟩
abbrev S1536x512 : Shape := ⟨2, ![1536, 512]⟩
abbrev S512x128 : Shape := ⟨2, ![512, 128]⟩
abbrev S128x512 : Shape := ⟨2, ![128, 512]⟩
abbrev S512x512 : Shape := ⟨2, ![512, 512]⟩
abbrev S1x512x512 : Shape := ⟨3, ![1, 512, 512]⟩
abbrev S3x512x512 : Shape := ⟨3, ![3, 512, 512]⟩
abbrev S3x512 : Shape := ⟨2, ![3, 512]⟩
abbrev S3x512x1 : Shape := ⟨3, ![3, 512, 1]⟩
abbrev S3x512x3 : Shape := ⟨3, ![3, 512, 3]⟩
abbrev S3x512x64 : Shape := ⟨3, ![3, 512, 64]⟩
abbrev S1x1024x64 : Shape := ⟨3, ![1, 1024, 64]⟩
abbrev S1024x64 : Shape := ⟨2, ![1024, 64]⟩
abbrev S64x1024 : Shape := ⟨2, ![64, 1024]⟩
abbrev S1536x1024 : Shape := ⟨2, ![1536, 1024]⟩
abbrev S128x1024 : Shape := ⟨2, ![128, 1024]⟩
abbrev S512x1024 : Shape := ⟨2, ![512, 1024]⟩
abbrev S1x512x1024 : Shape := ⟨3, ![1, 512, 1024]⟩
abbrev S3x512x1024 : Shape := ⟨3, ![3, 512, 1024]⟩
abbrev S1x1536x64 : Shape := ⟨3, ![1, 1536, 64]⟩
abbrev S64x1536 : Shape := ⟨2, ![64, 1536]⟩
abbrev S1536x1536 : Shape := ⟨2, ![1536, 1536]⟩
abbrev S128x1536 : Shape := ⟨2, ![128, 1536]⟩
abbrev S512x1536 : Shape := ⟨2, ![512, 1536]⟩
abbrev S1x512x1536 : Shape := ⟨3, ![1, 512, 1536]⟩
abbrev S3x512x1536 : Shape := ⟨3, ![3, 512, 1536]⟩
abbrev S64x2048 : Shape := ⟨2, ![64, 2048]⟩
abbrev S1536x2048 : Shape := ⟨2, ![1536, 2048]⟩
abbrev S128x2048 : Shape := ⟨2, ![128, 2048]⟩
abbrev S1x512x2048 : Shape := ⟨3, ![1, 512, 2048]⟩
abbrev S3x512x2048 : Shape := ⟨3, ![3, 512, 2048]⟩

abbrev nBuf : Space → Nat
  | .hbm => 86
  | .vmem => 101
  | .smem => 0
  | _ => 0

abbrev bufTy : (tb : Table) → Fin (tcTables nBuf tb) → BufTy
  | .hbm, ⟨0, _⟩ => ⟨S1x2048x768, .f32⟩
  | .hbm, ⟨1, _⟩ => ⟨S1x12x2048x64, .f32⟩
  | .hbm, ⟨2, _⟩ => ⟨S768x36, .f32⟩
  | .hbm, ⟨3, _⟩ => ⟨S36, .f32⟩
  | .hbm, ⟨4, _⟩ => ⟨S768x256, .f32⟩
  | .hbm, ⟨5, _⟩ => ⟨S768x256, .f32⟩
  | .hbm, ⟨6, _⟩ => ⟨S768x256, .f32⟩
  | .hbm, ⟨7, _⟩ => ⟨S768x256, .f32⟩
  | .hbm, ⟨8, _⟩ => ⟨S768x256, .f32⟩
  | .hbm, ⟨9, _⟩ => ⟨S768x256, .f32⟩
  | .hbm, ⟨10, _⟩ => ⟨S32x64, .f32⟩
  | .hbm, ⟨11, _⟩ => ⟨S2048x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S2048x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S2048x768, .f32⟩
  | .hbm, ⟨20, _⟩ => ⟨S768x1572, .f32⟩
  | .hbm, ⟨21, _⟩ => ⟨S_, .i32⟩
  | .hbm, ⟨22, _⟩ => ⟨S_, .f32⟩
  | .hbm, ⟨23, _⟩ => ⟨S768x1664, .f32⟩
  | .hbm, ⟨24, _⟩ => ⟨S_, .i32⟩
  | .hbm, ⟨25, _⟩ => ⟨S_, .f32⟩
  | .hbm, ⟨26, _⟩ => ⟨S1664, .f32⟩
  | .hbm, ⟨27, _⟩ => ⟨S1x1664, .f32⟩
  | .hbm, ⟨28, _⟩ => ⟨S2048x1664, .f32⟩
  | .hbm, ⟨29, _⟩ => ⟨S2048x36, .f32⟩
  | .hbm, ⟨30, _⟩ => ⟨S2048x3x4x3, .f32⟩
  | .hbm, ⟨31, _⟩ => ⟨S4x3x2048x3, .f32⟩
  | .hbm, ⟨32, _⟩ => ⟨S2048x256, .f32⟩
  | .hbm, ⟨33, _⟩ => ⟨S2048x4x64, .f32⟩
  | .hbm, ⟨34, _⟩ => ⟨S2048x256, .f32⟩
  | .hbm, ⟨35, _⟩ => ⟨S2048x4x64, .f32⟩
  | .hbm, ⟨36, _⟩ => ⟨S2048x256, .f32⟩
  | .hbm, ⟨37, _⟩ => ⟨S2048x4x64, .f32⟩
  | .hbm, ⟨38, _⟩ => ⟨S4x2048x64, .f32⟩
  | .hbm, ⟨39, _⟩ => ⟨S2048x256, .f32⟩
  | .hbm, ⟨40, _⟩ => ⟨S2048x4x64, .f32⟩
  | .hbm, ⟨41, _⟩ => ⟨S4x2048x64, .f32⟩
  | .hbm, ⟨42, _⟩ => ⟨S2048x256, .f32⟩
  | .hbm, ⟨43, _⟩ => ⟨S2048x4x64, .f32⟩
  | .hbm, ⟨44, _⟩ => ⟨S4x2048x64, .f32⟩
  | .hbm, ⟨45, _⟩ => ⟨S2048x256, .f32⟩
  | .hbm, ⟨46, _⟩ => ⟨S2048x4x64, .f32⟩
  | .hbm, ⟨47, _⟩ => ⟨S4x2048x64, .f32⟩
  | .hbm, ⟨48, _⟩ => ⟨S128x16x4x64, .f32⟩
  | .hbm, ⟨49, _⟩ => ⟨S127x16x4x64, .f32⟩
  | .hbm, ⟨50, _⟩ => ⟨S127x16x4x64, .f32⟩
  | .hbm, ⟨51, _⟩ => ⟨S127x32x4x64, .f32⟩
  | .hbm, ⟨52, _⟩ => ⟨S127x4x32x64, .f32⟩
  | .hbm, ⟨53, _⟩ => ⟨S508x2048, .f32⟩
  | .hbm, ⟨54, _⟩ => ⟨S_, .i32⟩
  | .hbm, ⟨55, _⟩ => ⟨S_, .f32⟩
  | .hbm, ⟨56, _⟩ => ⟨S512x2048, .f32⟩
  | .hbm, ⟨57, _⟩ => ⟨S128x16x4x64, .f32⟩
  | .hbm, ⟨58, _⟩ => ⟨S127x16x4x64, .f32⟩
  | .hbm, ⟨59, _⟩ => ⟨S127x16x4x64, .f32⟩
  | .hbm, ⟨60, _⟩ => ⟨S127x32x4x64, .f32⟩
  | .hbm, ⟨61, _⟩ => ⟨S127x4x32x64, .f32⟩
  | .hbm, ⟨62, _⟩ => ⟨S508x2048, .f32⟩
  | .hbm, ⟨63, _⟩ => ⟨S_, .i32⟩
  | .hbm, ⟨64, _⟩ => ⟨S_, .f32⟩
  | .hbm, ⟨65, _⟩ => ⟨S512x2048, .f32⟩
  | .hbm, ⟨66, _⟩ => ⟨S1x2048, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S512x64, .f32⟩
  | .hbm, ⟨72, _⟩ => ⟨S512x64, .f32⟩
  | .hbm, ⟨73, _⟩ => ⟨S128x4x64, .f32⟩
  | .hbm, ⟨74, _⟩ => ⟨S4x128x64, .f32⟩
  | .hbm, ⟨75, _⟩ => ⟨S128x4x64, .f32⟩
  | .hbm, ⟨76, _⟩ => ⟨S4x128x64, .f32⟩
  | .hbm, ⟨77, _⟩ => ⟨S3x4x2048x64, .f32⟩
  | .hbm, ⟨78, _⟩ => ⟨S3x4x2048x64, .f32⟩
  | .hbm, ⟨79, _⟩ => ⟨S4x2048x128, .f32⟩
  | .hbm, ⟨80, _⟩ => ⟨S3x4x512x64, .f32⟩
  | .hbm, ⟨81, _⟩ => ⟨S3x4x512x64, .f32⟩
  | .hbm, ⟨82, _⟩ => ⟨S3x4x512x64, .f32⟩
  | .hbm, ⟨83, _⟩ => ⟨S3x4x512x64, .f32⟩
  | .hbm, ⟨84, _⟩ => ⟨S3x4x2048x64, .f32⟩
  | .hbm, ⟨85, _⟩ => ⟨S1x12x2048x64, .f32⟩
  | .local _ .vmem, ⟨0, _⟩ => ⟨S256x768, .f32⟩
  | .local _ .vmem, ⟨1, _⟩ => ⟨S256x768, .f32⟩
  | .local _ .vmem, ⟨2, _⟩ => ⟨S768x1664, .f32⟩
  | .local _ .vmem, ⟨3, _⟩ => ⟨S1x1664, .f32⟩
  | .local _ .vmem, ⟨4, _⟩ => ⟨S256x1664, .f32⟩
  | .local _ .vmem, ⟨5, _⟩ => ⟨S256x1664, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S2048x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S2048x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S512x64, .f32⟩
  | .local _ .vmem, ⟨18, _⟩ => ⟨S512x64, .f32⟩
  | .local _ .vmem, ⟨19, _⟩ => ⟨S3x1x2048x64, .f32⟩
  | .local _ .vmem, ⟨20, _⟩ => ⟨S3x1x2048x64, .f32⟩
  | .local _ .vmem, ⟨21, _⟩ => ⟨S1x128x64, .f32⟩
  | .local _ .vmem, ⟨22, _⟩ => ⟨S1x128x64, .f32⟩
  | .local _ .vmem, ⟨23, _⟩ => ⟨S1x128x64, .f32⟩
  | .local _ .vmem, ⟨24, _⟩ => ⟨S1x128x64, .f32⟩
  | .local _ .vmem, ⟨25, _⟩ => ⟨S3x1x2048x64, .f32⟩
  | .local _ .vmem, ⟨26, _⟩ => ⟨S3x1x2048x64, .f32⟩
  | .local _ .vmem, ⟨27, _⟩ => ⟨S1x2048x128, .f32⟩
  | .local _ .vmem, ⟨28, _⟩ => ⟨S1x2048x128, .f32⟩
  | .local _ .vmem, ⟨29, _⟩ => ⟨S3x1x512x64, .f32⟩
  | .local _ .vmem, ⟨30, _⟩ => ⟨S3x1x512x64, .f32⟩
  | .local _ .vmem, ⟨31, _⟩ => ⟨S1x2048x64, .f32⟩
  | .local _ .vmem, ⟨32, _⟩ => ⟨S1x2048x64, .f32⟩
  | .local _ .vmem, ⟨33, _⟩ => ⟨S1x2048x64, .f32⟩
  | .local _ .vmem, ⟨34, _⟩ => ⟨S1x2048x64, .f32⟩
  | .local _ .vmem, ⟨35, _⟩ => ⟨S1x2048x64, .f32⟩
  | .local _ .vmem, ⟨36, _⟩ => ⟨S1x2048x64, .f32⟩
  | .local _ .vmem, ⟨37, _⟩ => ⟨S1x2048x64, .f32⟩
  | .local _ .vmem, ⟨38, _⟩ => ⟨S1x2048x64, .f32⟩
  | .local _ .vmem, ⟨39, _⟩ => ⟨S1x512x128, .f32⟩
  | .local _ .vmem, ⟨40, _⟩ => ⟨S1x512x128, .f32⟩
  | .local _ .vmem, ⟨41, _⟩ => ⟨S1x3x512x3, .f32⟩
  | .local _ .vmem, ⟨42, _⟩ => ⟨S1x3x512x3, .f32⟩
  | .local _ .vmem, ⟨43, _⟩ => ⟨S3x1x512x64, .f32⟩
  | .local _ .vmem, ⟨44, _⟩ => ⟨S3x1x512x64, .f32⟩
  | .local _ .vmem, ⟨45, _⟩ => ⟨S3x1x512x64, .f32⟩
  | .local _ .vmem, ⟨46, _⟩ => ⟨S3x1x512x64, .f32⟩
  | .local _ .vmem, ⟨47, _⟩ => ⟨S3x1x512x64, .f32⟩
  | .local _ .vmem, ⟨48, _⟩ => ⟨S3x1x512x64, .f32⟩
  | .local _ .vmem, ⟨49, _⟩ => ⟨S1x2048x64, .f32⟩
  | .local _ .vmem, ⟨50, _⟩ => ⟨S1x2048x64, .f32⟩
  | .local _ .vmem, ⟨51, _⟩ => ⟨S1x2048x64, .f32⟩
  | .local _ .vmem, ⟨52, _⟩ => ⟨S1x2048x64, .f32⟩
  | .local _ .vmem, ⟨53, _⟩ => ⟨S1x2048x64, .f32⟩
  | .local _ .vmem, ⟨54, _⟩ => ⟨S1x2048x64, .f32⟩
  | .local _ .vmem, ⟨55, _⟩ => ⟨S1x2048x64, .f32⟩
  | .local _ .vmem, ⟨56, _⟩ => ⟨S1x2048x64, .f32⟩
  | .local _ .vmem, ⟨57, _⟩ => ⟨S1x512x128, .f32⟩
  | .local _ .vmem, ⟨58, _⟩ => ⟨S1x512x128, .f32⟩
  | .local _ .vmem, ⟨59, _⟩ => ⟨S1x3x512x3, .f32⟩
  | .local _ .vmem, ⟨60, _⟩ => ⟨S1x3x512x3, .f32⟩
  | .local _ .vmem, ⟨61, _⟩ => ⟨S3x1x512x64, .f32⟩
  | .local _ .vmem, ⟨62, _⟩ => ⟨S3x1x512x64, .f32⟩
  | .local _ .vmem, ⟨63, _⟩ => ⟨S3x1x512x64, .f32⟩
  | .local _ .vmem, ⟨64, _⟩ => ⟨S3x1x512x64, .f32⟩
  | .local _ .vmem, ⟨65, _⟩ => ⟨S3x1x512x64, .f32⟩
  | .local _ .vmem, ⟨66, _⟩ => ⟨S3x1x512x64, .f32⟩
  | .local _ .vmem, ⟨67, _⟩ => ⟨S1x2048x64, .f32⟩
  | .local _ .vmem, ⟨68, _⟩ => ⟨S1x2048x64, .f32⟩
  | .local _ .vmem, ⟨69, _⟩ => ⟨S1x2048x64, .f32⟩
  | .local _ .vmem, ⟨70, _⟩ => ⟨S1x2048x64, .f32⟩
  | .local _ .vmem, ⟨71, _⟩ => ⟨S1x2048x64, .f32⟩
  | .local _ .vmem, ⟨72, _⟩ => ⟨S1x2048x64, .f32⟩
  | .local _ .vmem, ⟨73, _⟩ => ⟨S1x2048x64, .f32⟩
  | .local _ .vmem, ⟨74, _⟩ => ⟨S1x2048x64, .f32⟩
  | .local _ .vmem, ⟨75, _⟩ => ⟨S1x512x128, .f32⟩
  | .local _ .vmem, ⟨76, _⟩ => ⟨S1x512x128, .f32⟩
  | .local _ .vmem, ⟨77, _⟩ => ⟨S1x3x512x3, .f32⟩
  | .local _ .vmem, ⟨78, _⟩ => ⟨S1x3x512x3, .f32⟩
  | .local _ .vmem, ⟨79, _⟩ => ⟨S3x1x512x64, .f32⟩
  | .local _ .vmem, ⟨80, _⟩ => ⟨S3x1x512x64, .f32⟩
  | .local _ .vmem, ⟨81, _⟩ => ⟨S3x1x512x64, .f32⟩
  | .local _ .vmem, ⟨82, _⟩ => ⟨S3x1x512x64, .f32⟩
  | .local _ .vmem, ⟨83, _⟩ => ⟨S3x1x512x64, .f32⟩
  | .local _ .vmem, ⟨84, _⟩ => ⟨S3x1x512x64, .f32⟩
  | .local _ .vmem, ⟨85, _⟩ => ⟨S1x2048x64, .f32⟩
  | .local _ .vmem, ⟨86, _⟩ => ⟨S1x2048x64, .f32⟩
  | .local _ .vmem, ⟨87, _⟩ => ⟨S1x2048x64, .f32⟩
  | .local _ .vmem, ⟨88, _⟩ => ⟨S1x2048x64, .f32⟩
  | .local _ .vmem, ⟨89, _⟩ => ⟨S1x2048x64, .f32⟩
  | .local _ .vmem, ⟨90, _⟩ => ⟨S1x2048x64, .f32⟩
  | .local _ .vmem, ⟨91, _⟩ => ⟨S1x2048x64, .f32⟩
  | .local _ .vmem, ⟨92, _⟩ => ⟨S1x2048x64, .f32⟩
  | .local _ .vmem, ⟨93, _⟩ => ⟨S1x512x128, .f32⟩
  | .local _ .vmem, ⟨94, _⟩ => ⟨S1x512x128, .f32⟩
  | .local _ .vmem, ⟨95, _⟩ => ⟨S1x3x512x3, .f32⟩
  | .local _ .vmem, ⟨96, _⟩ => ⟨S1x3x512x3, .f32⟩
  | .local _ .vmem, ⟨97, _⟩ => ⟨S3x1x512x64, .f32⟩
  | .local _ .vmem, ⟨98, _⟩ => ⟨S3x1x512x64, .f32⟩
  | .local _ .vmem, ⟨99, _⟩ => ⟨S3x1x512x64, .f32⟩
  | .local _ .vmem, ⟨100, _⟩ => ⟨S3x1x512x64, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_call0_v0 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_1 : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_2 : Ref sig .tc := ⟨.hbm, 63, rfl⟩
abbrev main_call3_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44_0 : Ref sig .tc := ⟨.hbm, 71, rfl⟩
abbrev main_v44_1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_stg8_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc4_stg4_1 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc4_stg7_0 : Ref sig .tc := ⟨.vmem, 61, rfl⟩
abbrev cc4_stg7_1 : Ref sig .tc := ⟨.vmem, 62, rfl⟩
abbrev cc4_stg8_0 : Ref sig .tc := ⟨.vmem, 63, rfl⟩
abbrev cc4_stg8_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg2_1 : Ref sig .tc := ⟨.vmem, 70, rfl⟩
abbrev cc5_stg3_0 : Ref sig .tc := ⟨.vmem, 71, rfl⟩
abbrev cc5_stg3_1 : Ref sig .tc := ⟨.vmem, 72, rfl⟩
abbrev cc5_stg4_0 : Ref sig .tc := ⟨.vmem, 73, rfl⟩
abbrev cc5_stg4_1 : Ref sig .tc := ⟨.vmem, 74, rfl⟩
abbrev cc5_stg5_0 : Ref sig .tc := ⟨.vmem, 75, rfl⟩
abbrev cc5_stg5_1 : Ref sig .tc := ⟨.vmem, 76, rfl⟩
abbrev cc5_stg6_0 : Ref sig .tc := ⟨.vmem, 77, rfl⟩
abbrev cc5_stg6_1 : Ref sig .tc := ⟨.vmem, 78, rfl⟩
abbrev cc5_stg7_0 : Ref sig .tc := ⟨.vmem, 79, rfl⟩
abbrev cc5_stg7_1 : Ref sig .tc := ⟨.vmem, 80, rfl⟩
abbrev cc5_stg8_0 : Ref sig .tc := ⟨.vmem, 81, rfl⟩
abbrev cc5_stg8_1 : Ref sig .tc := ⟨.vmem, 82, rfl⟩
abbrev cc6_stg0_0 : Ref sig .tc := ⟨.vmem, 83, rfl⟩
abbrev cc6_stg0_1 : Ref sig .tc := ⟨.vmem, 84, rfl⟩
abbrev cc6_stg1_0 : Ref sig .tc := ⟨.vmem, 85, rfl⟩
abbrev cc6_stg1_1 : Ref sig .tc := ⟨.vmem, 86, rfl⟩
abbrev cc6_stg2_0 : Ref sig .tc := ⟨.vmem, 87, rfl⟩
abbrev cc6_stg2_1 : Ref sig .tc := ⟨.vmem, 88, rfl⟩
abbrev cc6_stg3_0 : Ref sig .tc := ⟨.vmem, 89, rfl⟩
abbrev cc6_stg3_1 : Ref sig .tc := ⟨.vmem, 90, rfl⟩
abbrev cc6_stg4_0 : Ref sig .tc := ⟨.vmem, 91, rfl⟩
abbrev cc6_stg4_1 : Ref sig .tc := ⟨.vmem, 92, rfl⟩
abbrev cc6_stg5_0 : Ref sig .tc := ⟨.vmem, 93, rfl⟩
abbrev cc6_stg5_1 : Ref sig .tc := ⟨.vmem, 94, rfl⟩
abbrev cc6_stg6_0 : Ref sig .tc := ⟨.vmem, 95, rfl⟩
abbrev cc6_stg6_1 : Ref sig .tc := ⟨.vmem, 96, rfl⟩
abbrev cc6_stg7_0 : Ref sig .tc := ⟨.vmem, 97, rfl⟩
abbrev cc6_stg7_1 : Ref sig .tc := ⟨.vmem, 98, rfl⟩
abbrev cc6_stg8_0 : Ref sig .tc := ⟨.vmem, 99, rfl⟩
abbrev cc6_stg8_1 : Ref sig .tc := ⟨.vmem, 100, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc3_sem6_0 : DmaSem sig := 41
abbrev cc3_sem6_1 : DmaSem sig := 42
abbrev cc3_sem7_0 : DmaSem sig := 43
abbrev cc3_sem7_1 : DmaSem sig := 44
abbrev cc3_sem8_0 : DmaSem sig := 45
abbrev cc3_sem8_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem3_1 : DmaSem sig := 54
abbrev cc4_sem4_0 : DmaSem sig := 55
abbrev cc4_sem4_1 : DmaSem sig := 56
abbrev cc4_sem5_0 : DmaSem sig := 57
abbrev cc4_sem5_1 : DmaSem sig := 58
abbrev cc4_sem6_0 : DmaSem sig := 59
abbrev cc4_sem6_1 : DmaSem sig := 60
abbrev cc4_sem7_0 : DmaSem sig := 61
abbrev cc4_sem7_1 : DmaSem sig := 62
abbrev cc4_sem8_0 : DmaSem sig := 63
abbrev cc4_sem8_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem2_1 : DmaSem sig := 70
abbrev cc5_sem3_0 : DmaSem sig := 71
abbrev cc5_sem3_1 : DmaSem sig := 72
abbrev cc5_sem4_0 : DmaSem sig := 73
abbrev cc5_sem4_1 : DmaSem sig := 74
abbrev cc5_sem5_0 : DmaSem sig := 75
abbrev cc5_sem5_1 : DmaSem sig := 76
abbrev cc5_sem6_0 : DmaSem sig := 77
abbrev cc5_sem6_1 : DmaSem sig := 78
abbrev cc5_sem7_0 : DmaSem sig := 79
abbrev cc5_sem7_1 : DmaSem sig := 80
abbrev cc5_sem8_0 : DmaSem sig := 81
abbrev cc5_sem8_1 : DmaSem sig := 82
abbrev cc6_sem0_0 : DmaSem sig := 83
abbrev cc6_sem0_1 : DmaSem sig := 84
abbrev cc6_sem1_0 : DmaSem sig := 85
abbrev cc6_sem1_1 : DmaSem sig := 86
abbrev cc6_sem2_0 : DmaSem sig := 87
abbrev cc6_sem2_1 : DmaSem sig := 88
abbrev cc6_sem3_0 : DmaSem sig := 89
abbrev cc6_sem3_1 : DmaSem sig := 90
abbrev cc6_sem4_0 : DmaSem sig := 91
abbrev cc6_sem4_1 : DmaSem sig := 92
abbrev cc6_sem5_0 : DmaSem sig := 93
abbrev cc6_sem5_1 : DmaSem sig := 94
abbrev cc6_sem6_0 : DmaSem sig := 95
abbrev cc6_sem6_1 : DmaSem sig := 96
abbrev cc6_sem7_0 : DmaSem sig := 97
abbrev cc6_sem7_1 : DmaSem sig := 98
abbrev cc6_sem8_0 : DmaSem sig := 99
abbrev cc6_sem8_1 : DmaSem sig := 100

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S512x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2048x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S512x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S512x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S3x1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x1x2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_7 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_8 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S3x1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x2048x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x3x512x3 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S3x1x512x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S3x1x512x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![4], ![false]⟩

def cc4_transform_0 (i : grid4.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc4_transform_6 (i : grid4.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![arg0.toNat, c0_i32.toNat, c1_i32.toNat, c0_i32_0.toNat]

def cc4_transform_7 (i : grid4.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc4_transform_8 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage4_0 : Fin 2 → Memref sig .tc .vmem S3x1x512x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x2048x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x512x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x3x512x3 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S3x1x512x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S3x1x512x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![4], ![false]⟩

def cc5_transform_0 (i : grid5.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, arg0.toNat, c2_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc5_transform_6 (i : grid5.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![arg0.toNat, c0_i32.toNat, c2_i32.toNat, c0_i32_0.toNat]

def cc5_transform_7 (i : grid5.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, arg0.toNat, c2_i32.toNat, c0_i32_0.toNat]

def cc5_transform_8 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage5_0 : Fin 2 → Memref sig .tc .vmem S3x1x512x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x2048x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x512x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x3x512x3 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S3x1x512x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S3x1x512x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![4], ![false]⟩

def cc6_transform_0 (i : grid6.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, arg0.toNat, c3_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc6_transform_6 (i : grid6.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![arg0.toNat, c0_i32.toNat, c3_i32.toNat, c0_i32_0.toNat]

def cc6_transform_7 (i : grid6.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, arg0.toNat, c3_i32.toNat, c0_i32_0.toNat]

def cc6_transform_8 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage6_0 : Fin 2 → Memref sig .tc .vmem S3x1x512x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x2048x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x2048x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x512x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x3x512x3 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S3x1x512x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S3x1x512x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]
-- ==== KernelIdeal.lean ====
variable {F : FTy → Type} [FloatOps F] [Named F]
def κ : String → Option EReal := fun
  | "inv_sqrt2" => some (((Real.sqrt 2)⁻¹ : ℝ) : EReal)
  | "mask" => some ⊥
  | _ => none
-- ==== ReferenceIdeal.lean ====
abbrev S1x2048x768 : Shape := ⟨3, ![1, 2048, 768]⟩
abbrev S1x12x2048x64 : Shape := ⟨4, ![1, 12, 2048, 64]⟩
abbrev S768x36 : Shape := ⟨2, ![768, 36]⟩
abbrev S36 : Shape := ⟨1, ![36]⟩
abbrev S768x256 : Shape := ⟨2, ![768, 256]⟩
abbrev S32x64 : Shape := ⟨2, ![32, 64]⟩
abbrev S2048x64 : Shape := ⟨2, ![2048, 64]⟩
abbrev S64 : Shape := ⟨1, ![64]⟩
abbrev S64x64 : Shape := ⟨2, ![64, 64]⟩
abbrev S1x2048x36 : Shape := ⟨3, ![1, 2048, 36]⟩
abbrev S1x1x36 : Shape := ⟨3, ![1, 1, 36]⟩
abbrev S_ : Shape := ⟨0, ![]⟩
abbrev S1x2048x12x3 : Shape := ⟨4, ![1, 2048, 12, 3]⟩
abbrev S1x12x2048x3 : Shape := ⟨4, ![1, 12, 2048, 3]⟩
abbrev S1x12x2048x1 : Shape := ⟨4, ![1, 12, 2048, 1]⟩
abbrev S1x12x2048 : Shape := ⟨3, ![1, 12, 2048]⟩
abbrev S1x2048x256 : Shape := ⟨3, ![1, 2048, 256]⟩
abbrev S1x2048x4x64 : Shape := ⟨4, ![1, 2048, 4, 64]⟩
abbrev S127 : Shape := ⟨1, ![127]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S1x127x32x4x64 : Shape := ⟨5, ![1, 127, 32, 4, 64]⟩
abbrev S1x1x32x1x64 : Shape := ⟨5, ![1, 1, 32, 1, 64]⟩
abbrev S1x127x4x32x64 : Shape := ⟨5, ![1, 127, 4, 32, 64]⟩
abbrev S1x127x4x2048 : Shape := ⟨4, ![1, 127, 4, 2048]⟩
abbrev S1x127x4x64 : Shape := ⟨4, ![1, 127, 4, 64]⟩
abbrev S1x1x1x64 : Shape := ⟨4, ![1, 1, 1, 64]⟩
abbrev S1x3x4x2048x64 : Shape := ⟨5, ![1, 3, 4, 2048, 64]⟩
abbrev S1x4x127x64 : Shape := ⟨4, ![1, 4, 127, 64]⟩
abbrev S1x4x127x3x2048 : Shape := ⟨5, ![1, 4, 127, 3, 2048]⟩
abbrev S1x3x4x2048x127 : Shape := ⟨5, ![1, 3, 4, 2048, 127]⟩
abbrev S2048 : Shape := ⟨1, ![2048]⟩
abbrev S2048x1 : Shape := ⟨2, ![2048, 1]⟩
abbrev S1x127 : Shape := ⟨2, ![1, 127]⟩
abbrev S2048x127 : Shape := ⟨2, ![2048, 127]⟩
abbrev S1x1x1x2048x127 : Shape := ⟨5, ![1, 1, 1, 2048, 127]⟩
abbrev S1x3x4x2048 : Shape := ⟨4, ![1, 3, 4, 2048]⟩
abbrev S1x3x4x2048x1 : Shape := ⟨5, ![1, 3, 4, 2048, 1]⟩
abbrev S1x4x64x3x2048 : Shape := ⟨5, ![1, 4, 64, 3, 2048]⟩
abbrev S1x4x2048x127 : Shape := ⟨4, ![1, 4, 2048, 127]⟩
abbrev S1x4x2048x16 : Shape := ⟨4, ![1, 4, 2048, 16]⟩
abbrev S1x4x2048x16x1 : Shape := ⟨5, ![1, 4, 2048, 16, 1]⟩
abbrev S1x1x1x1x127 : Shape := ⟨5, ![1, 1, 1, 1, 127]⟩
abbrev S1x4x2048x16x127 : Shape := ⟨5, ![1, 4, 2048, 16, 127]⟩
abbrev S1x2048 : Shape := ⟨2, ![1, 2048]⟩
abbrev S127x2048 : Shape := ⟨2, ![127, 2048]⟩
abbrev S1x4x2048x2048 : Shape := ⟨4, ![1, 4, 2048, 2048]⟩
abbrev S2048x2048 : Shape := ⟨2, ![2048, 2048]⟩
abbrev S1x1x2048x2048 : Shape := ⟨4, ![1, 1, 2048, 2048]⟩
abbrev S1x4x2048x64 : Shape := ⟨4, ![1, 4, 2048, 64]⟩
abbrev S1x4x2048x3x2048 : Shape := ⟨5, ![1, 4, 2048, 3, 2048]⟩
abbrev S1x3x4x2048x2048 : Shape := ⟨5, ![1, 3, 4, 2048, 2048]⟩
abbrev S1x1x4x2048x2048 : Shape := ⟨5, ![1, 1, 4, 2048, 2048]⟩
abbrev S1x1x1x2048x2048 : Shape := ⟨5, ![1, 1, 1, 2048, 2048]⟩

abbrev nBuf : Space → Nat
  | .hbm => 287
  | .vmem => 0
  | .smem => 0
  | _ => 0

abbrev hbmTy0_0 (i : Nat) : BufTy := match i % 128 with
  | 0 => ⟨S1x2048x768, .f32⟩
  | 1 => ⟨S1x12x2048x64, .f32⟩
  | 2 => ⟨S768x36, .f32⟩
  | 3 => ⟨S36, .f32⟩
  | 4 => ⟨S768x256, .f32⟩
  | 5 => ⟨S768x256, .f32⟩
  | 6 => ⟨S768x256, .f32⟩
  | 7 => ⟨S768x256, .f32⟩
  | 8 => ⟨S768x256, .f32⟩
  | 9 => ⟨S768x256, .f32⟩
  | 10 => ⟨S32x64, .f32⟩
  | 11 => ⟨S2048x64, .f32⟩
  | 12 => ⟨S64, .f32⟩
  | 13 => ⟨S64x64, .f32⟩
  | 14 => ⟨S64, .f32⟩
  | 15 => ⟨S2048x64, .f32⟩
  | 16 => ⟨S64, .f32⟩
  | 17 => ⟨S64x64, .f32⟩
  | 18 => ⟨S64, .f32⟩
  | 19 => ⟨S1x2048x36, .f32⟩
  | 20 => ⟨S1x1x36, .f32⟩
  | 21 => ⟨S1x2048x36, .f32⟩
  | 22 => ⟨S1x2048x36, .f32⟩
  | 23 => ⟨S1x2048x36, .f32⟩
  | 24 => ⟨S1x2048x36, .f32⟩
  | 25 => ⟨S_, .f32⟩
  | 26 => ⟨S1x2048x36, .f32⟩
  | 27 => ⟨S1x2048x36, .f32⟩
  | 28 => ⟨S_, .f32⟩
  | 29 => ⟨S1x2048x36, .f32⟩
  | 30 => ⟨S1x2048x36, .f32⟩
  | 31 => ⟨S1x2048x12x3, .f32⟩
  | 32 => ⟨S1x12x2048x3, .f32⟩
  | 33 => ⟨S1x12x2048x1, .f32⟩
  | 34 => ⟨S1x12x2048, .f32⟩
  | 35 => ⟨S1x12x2048x1, .f32⟩
  | 36 => ⟨S1x12x2048, .f32⟩
  | 37 => ⟨S1x12x2048x1, .f32⟩
  | 38 => ⟨S1x12x2048, .f32⟩
  | 39 => ⟨S1x2048x256, .f32⟩
  | 40 => ⟨S1x2048x4x64, .f32⟩
  | 41 => ⟨S1x2048x256, .f32⟩
  | 42 => ⟨S1x2048x4x64, .f32⟩
  | 43 => ⟨S1x2048x256, .f32⟩
  | 44 => ⟨S1x2048x4x64, .f32⟩
  | 45 => ⟨S1x2048x256, .f32⟩
  | 46 => ⟨S1x2048x4x64, .f32⟩
  | 47 => ⟨S1x2048x256, .f32⟩
  | 48 => ⟨S1x2048x4x64, .f32⟩
  | 49 => ⟨S1x2048x256, .f32⟩
  | 50 => ⟨S1x2048x4x64, .f32⟩
  | 51 => ⟨S127, .i32⟩
  | 52 => ⟨S_, .i32⟩
  | 53 => ⟨S127, .i32⟩
  | 54 => ⟨S127, .i32⟩
  | 55 => ⟨S127x1, .i32⟩
  | 56 => ⟨S32, .i32⟩
  | 57 => ⟨S1x32, .i32⟩
  | 58 => ⟨S127x32, .i32⟩
  | 59 => ⟨S127x32, .i32⟩
  | 60 => ⟨S127x32, .i32⟩
  | 61 => ⟨S_, .i32⟩
  | 62 => ⟨S127x32, .i32⟩
  | 63 => ⟨S127x32, .i1⟩
  | 64 => ⟨S_, .i32⟩
  | 65 => ⟨S127x32, .i32⟩
  | 66 => ⟨S127x32, .i32⟩
  | 67 => ⟨S127x32, .i32⟩
  | 68 => ⟨S127x32x1, .i32⟩
  | 69 => ⟨S1x127x32x4x64, .f32⟩
  | 70 => ⟨S1x1x32x1x64, .f32⟩
  | 71 => ⟨S1x127x32x4x64, .f32⟩
  | 72 => ⟨S1x127x32x4x64, .f32⟩
  | 73 => ⟨S_, .i32⟩
  | 74 => ⟨S127x32, .i32⟩
  | 75 => ⟨S127x32, .i1⟩
  | 76 => ⟨S_, .i32⟩
  | 77 => ⟨S127x32, .i32⟩
  | 78 => ⟨S127x32, .i32⟩
  | 79 => ⟨S127x32, .i32⟩
  | 80 => ⟨S127x32x1, .i32⟩
  | 81 => ⟨S1x127x32x4x64, .f32⟩
  | 82 => ⟨S1x1x32x1x64, .f32⟩
  | 83 => ⟨S1x127x32x4x64, .f32⟩
  | 84 => ⟨S1x127x32x4x64, .f32⟩
  | 85 => ⟨S1x127x4x32x64, .f32⟩
  | 86 => ⟨S1x127x4x2048, .f32⟩
  | 87 => ⟨S1x127x4x32x64, .f32⟩
  | 88 => ⟨S1x127x4x2048, .f32⟩
  | 89 => ⟨S1x127x4x64, .f32⟩
  | 90 => ⟨S1x1x1x64, .f32⟩
  | 91 => ⟨S1x127x4x64, .f32⟩
  | 92 => ⟨S1x127x4x64, .f32⟩
  | 93 => ⟨S_, .f32⟩
  | 94 => ⟨S1x127x4x64, .f32⟩
  | 95 => ⟨S1x127x4x64, .f32⟩
  | 96 => ⟨S_, .f32⟩
  | 97 => ⟨S_, .f32⟩
  | 98 => ⟨S1x127x4x64, .f32⟩
  | 99 => ⟨S1x127x4x64, .f32⟩
  | 100 => ⟨S1x127x4x64, .f32⟩
  | 101 => ⟨S_, .f32⟩
  | 102 => ⟨S1x127x4x64, .f32⟩
  | 103 => ⟨S1x127x4x64, .f32⟩
  | 104 => ⟨S1x127x4x64, .f32⟩
  | 105 => ⟨S1x127x4x64, .f32⟩
  | 106 => ⟨S1x1x1x64, .f32⟩
  | 107 => ⟨S1x127x4x64, .f32⟩
  | 108 => ⟨S1x127x4x64, .f32⟩
  | 109 => ⟨S1x127x4x64, .f32⟩
  | 110 => ⟨S1x1x1x64, .f32⟩
  | 111 => ⟨S1x127x4x64, .f32⟩
  | 112 => ⟨S1x127x4x64, .f32⟩
  | 113 => ⟨S_, .f32⟩
  | 114 => ⟨S1x127x4x64, .f32⟩
  | 115 => ⟨S1x127x4x64, .f32⟩
  | 116 => ⟨S_, .f32⟩
  | 117 => ⟨S_, .f32⟩
  | 118 => ⟨S1x127x4x64, .f32⟩
  | 119 => ⟨S1x127x4x64, .f32⟩
  | 120 => ⟨S1x127x4x64, .f32⟩
  | 121 => ⟨S_, .f32⟩
  | 122 => ⟨S1x127x4x64, .f32⟩
  | 123 => ⟨S1x127x4x64, .f32⟩
  | 124 => ⟨S1x127x4x64, .f32⟩
  | 125 => ⟨S1x127x4x64, .f32⟩
  | 126 => ⟨S1x1x1x64, .f32⟩
  | 127 => ⟨S1x127x4x64, .f32⟩
  | _ => ⟨S1x2048x768, .f32⟩

abbrev hbmTy0_1 (i : Nat) : BufTy := match i % 128 with
  | 0 => ⟨S1x127x4x64, .f32⟩
  | 1 => ⟨S1x3x4x2048x64, .f32⟩
  | 2 => ⟨S1x4x127x64, .f32⟩
  | 3 => ⟨S1x4x127x64, .f32⟩
  | 4 => ⟨S1x4x127x3x2048, .f32⟩
  | 5 => ⟨S1x3x4x2048x127, .f32⟩
  | 6 => ⟨S_, .f32⟩
  | 7 => ⟨S1x3x4x2048x127, .f32⟩
  | 8 => ⟨S1x3x4x2048x127, .f32⟩
  | 9 => ⟨S2048, .i32⟩
  | 10 => ⟨S2048x1, .i32⟩
  | 11 => ⟨S1x127, .i32⟩
  | 12 => ⟨S2048x127, .i32⟩
  | 13 => ⟨S2048x127, .i32⟩
  | 14 => ⟨S2048x127, .i1⟩
  | 15 => ⟨S1x1x1x2048x127, .i1⟩
  | 16 => ⟨S1x3x4x2048x127, .i1⟩
  | 17 => ⟨S_, .f32⟩
  | 18 => ⟨S1x3x4x2048x127, .f32⟩
  | 19 => ⟨S1x3x4x2048x127, .f32⟩
  | 20 => ⟨S_, .f32⟩
  | 21 => ⟨S1x3x4x2048, .f32⟩
  | 22 => ⟨S_, .f32⟩
  | 23 => ⟨S1x3x4x2048, .f32⟩
  | 24 => ⟨S1x3x4x2048, .f32⟩
  | 25 => ⟨S1x3x4x2048x1, .f32⟩
  | 26 => ⟨S1x3x4x2048x127, .f32⟩
  | 27 => ⟨S1x3x4x2048x127, .f32⟩
  | 28 => ⟨S1x3x4x2048x127, .f32⟩
  | 29 => ⟨S_, .f32⟩
  | 30 => ⟨S1x3x4x2048, .f32⟩
  | 31 => ⟨S1x3x4x2048x1, .f32⟩
  | 32 => ⟨S1x3x4x2048x127, .f32⟩
  | 33 => ⟨S1x3x4x2048x127, .f32⟩
  | 34 => ⟨S1x4x64x3x2048, .f32⟩
  | 35 => ⟨S1x3x4x2048x64, .f32⟩
  | 36 => ⟨S1x12x2048x64, .f32⟩
  | 37 => ⟨S_, .f32⟩
  | 38 => ⟨S1x4x2048x127, .f32⟩
  | 39 => ⟨S1x4x2048x16, .f32⟩
  | 40 => ⟨S1x4x2048x16, .i32⟩
  | 41 => ⟨S1x4x2048x16x1, .i32⟩
  | 42 => ⟨S127, .i32⟩
  | 43 => ⟨S1x1x1x1x127, .i32⟩
  | 44 => ⟨S1x4x2048x16x127, .i32⟩
  | 45 => ⟨S1x4x2048x16x127, .i32⟩
  | 46 => ⟨S1x4x2048x16x127, .i1⟩
  | 47 => ⟨S1x4x2048x16x127, .f32⟩
  | 48 => ⟨S_, .f32⟩
  | 49 => ⟨S1x4x2048x127, .f32⟩
  | 50 => ⟨S2048, .i32⟩
  | 51 => ⟨S1x2048, .i32⟩
  | 52 => ⟨S127x1, .i32⟩
  | 53 => ⟨S127x2048, .i32⟩
  | 54 => ⟨S127x2048, .i32⟩
  | 55 => ⟨S127x2048, .i1⟩
  | 56 => ⟨S1x2048, .i32⟩
  | 57 => ⟨S127x1, .i32⟩
  | 58 => ⟨S_, .i32⟩
  | 59 => ⟨S127x1, .i32⟩
  | 60 => ⟨S127x1, .i32⟩
  | 61 => ⟨S127x2048, .i32⟩
  | 62 => ⟨S127x2048, .i32⟩
  | 63 => ⟨S127x2048, .i1⟩
  | 64 => ⟨S127x2048, .i1⟩
  | 65 => ⟨S127x2048, .f32⟩
  | 66 => ⟨S1x4x2048x2048, .f32⟩
  | 67 => ⟨S_, .f32⟩
  | 68 => ⟨S1x4x2048x2048, .f32⟩
  | 69 => ⟨S1x4x2048x2048, .i1⟩
  | 70 => ⟨S1x2048, .i32⟩
  | 71 => ⟨S2048x1, .i32⟩
  | 72 => ⟨S2048x2048, .i32⟩
  | 73 => ⟨S2048x2048, .i32⟩
  | 74 => ⟨S2048x2048, .i1⟩
  | 75 => ⟨S1x1x2048x2048, .i1⟩
  | 76 => ⟨S1x4x2048x2048, .i1⟩
  | 77 => ⟨S1x4x2048x2048, .i1⟩
  | 78 => ⟨S1x4x2048x64, .f32⟩
  | 79 => ⟨S1x4x2048x64, .f32⟩
  | 80 => ⟨S1x4x2048x3x2048, .f32⟩
  | 81 => ⟨S1x3x4x2048x2048, .f32⟩
  | 82 => ⟨S_, .f32⟩
  | 83 => ⟨S1x3x4x2048x2048, .f32⟩
  | 84 => ⟨S1x3x4x2048x2048, .f32⟩
  | 85 => ⟨S1x1x4x2048x2048, .i1⟩
  | 86 => ⟨S1x3x4x2048x2048, .i1⟩
  | 87 => ⟨S_, .f32⟩
  | 88 => ⟨S1x3x4x2048x2048, .f32⟩
  | 89 => ⟨S1x3x4x2048x2048, .f32⟩
  | 90 => ⟨S_, .f32⟩
  | 91 => ⟨S1x3x4x2048, .f32⟩
  | 92 => ⟨S_, .f32⟩
  | 93 => ⟨S1x3x4x2048, .f32⟩
  | 94 => ⟨S1x3x4x2048, .f32⟩
  | 95 => ⟨S1x3x4x2048x1, .f32⟩
  | 96 => ⟨S1x3x4x2048x2048, .f32⟩
  | 97 => ⟨S1x3x4x2048x2048, .f32⟩
  | 98 => ⟨S1x3x4x2048x2048, .f32⟩
  | 99 => ⟨S_, .f32⟩
  | 100 => ⟨S1x3x4x2048, .f32⟩
  | 101 => ⟨S1x3x4x2048x1, .f32⟩
  | 102 => ⟨S1x3x4x2048x2048, .f32⟩
  | 103 => ⟨S1x3x4x2048x2048, .f32⟩
  | 104 => ⟨S1x4x64x3x2048, .f32⟩
  | 105 => ⟨S1x3x4x2048x64, .f32⟩
  | 106 => ⟨S1x12x2048x64, .f32⟩
  | 107 => ⟨S1x4x2048x64, .f32⟩
  | 108 => ⟨S1x4x2048x64, .f32⟩
  | 109 => ⟨S2048x1, .i32⟩
  | 110 => ⟨S1x2048, .i32⟩
  | 111 => ⟨S2048x2048, .i32⟩
  | 112 => ⟨S2048x2048, .i32⟩
  | 113 => ⟨S2048x2048, .i32⟩
  | 114 => ⟨S_, .i32⟩
  | 115 => ⟨S2048x2048, .i32⟩
  | 116 => ⟨S2048x2048, .i1⟩
  | 117 => ⟨S_, .i32⟩
  | 118 => ⟨S2048x2048, .i32⟩
  | 119 => ⟨S2048x2048, .i1⟩
  | 120 => ⟨S2048x2048, .i1⟩
  | 121 => ⟨S1x4x2048x3x2048, .f32⟩
  | 122 => ⟨S1x3x4x2048x2048, .f32⟩
  | 123 => ⟨S_, .f32⟩
  | 124 => ⟨S1x3x4x2048x2048, .f32⟩
  | 125 => ⟨S1x3x4x2048x2048, .f32⟩
  | 126 => ⟨S1x1x1x2048x2048, .i1⟩
  | 127 => ⟨S1x3x4x2048x2048, .i1⟩
  | _ => ⟨S1x2048x768, .f32⟩

abbrev hbmTy0_2 (i : Nat) : BufTy := match i % 128 with
  | 0 => ⟨S_, .f32⟩
  | 1 => ⟨S1x3x4x2048x2048, .f32⟩
  | 2 => ⟨S1x3x4x2048x2048, .f32⟩
  | 3 => ⟨S_, .f32⟩
  | 4 => ⟨S1x3x4x2048, .f32⟩
  | 5 => ⟨S_, .f32⟩
  | 6 => ⟨S1x3x4x2048, .f32⟩
  | 7 => ⟨S1x3x4x2048, .f32⟩
  | 8 => ⟨S1x3x4x2048x1, .f32⟩
  | 9 => ⟨S1x3x4x2048x2048, .f32⟩
  | 10 => ⟨S1x3x4x2048x2048, .f32⟩
  | 11 => ⟨S1x3x4x2048x2048, .f32⟩
  | 12 => ⟨S_, .f32⟩
  | 13 => ⟨S1x3x4x2048, .f32⟩
  | 14 => ⟨S1x3x4x2048x1, .f32⟩
  | 15 => ⟨S1x3x4x2048x2048, .f32⟩
  | 16 => ⟨S1x3x4x2048x2048, .f32⟩
  | 17 => ⟨S1x4x64x3x2048, .f32⟩
  | 18 => ⟨S1x3x4x2048x64, .f32⟩
  | 19 => ⟨S1x12x2048x64, .f32⟩
  | 20 => ⟨S1x12x2048x1, .f32⟩
  | 21 => ⟨S1x12x2048x64, .f32⟩
  | 22 => ⟨S1x12x2048x64, .f32⟩
  | 23 => ⟨S1x12x2048x1, .f32⟩
  | 24 => ⟨S1x12x2048x64, .f32⟩
  | 25 => ⟨S1x12x2048x64, .f32⟩
  | 26 => ⟨S1x12x2048x64, .f32⟩
  | 27 => ⟨S1x12x2048x1, .f32⟩
  | 28 => ⟨S1x12x2048x64, .f32⟩
  | 29 => ⟨S1x12x2048x64, .f32⟩
  | 30 => ⟨S1x12x2048x64, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_1 : Ref sig .tc := ⟨.hbm, 61, rfl⟩
abbrev main_v39 : Ref sig .tc := ⟨.hbm, 62, rfl⟩
abbrev main_v40 : Ref sig .tc := ⟨.hbm, 63, rfl⟩
abbrev main_c_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_3 : Ref sig .tc := ⟨.hbm, 73, rfl⟩
abbrev main_v49 : Ref sig .tc := ⟨.hbm, 74, rfl⟩
abbrev main_v50 : Ref sig .tc := ⟨.hbm, 75, rfl⟩
abbrev main_c_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_5 : Ref sig .tc := ⟨.hbm, 93, rfl⟩
abbrev main_v67 : Ref sig .tc := ⟨.hbm, 94, rfl⟩
abbrev main_v68 : Ref sig .tc := ⟨.hbm, 95, rfl⟩
abbrev main_cst_6 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_7 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_8 : Ref sig .tc := ⟨.hbm, 113, rfl⟩
abbrev main_v84 : Ref sig .tc := ⟨.hbm, 114, rfl⟩
abbrev main_v85 : Ref sig .tc := ⟨.hbm, 115, rfl⟩
abbrev main_cst_9 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_10 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_11 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_12 : Ref sig .tc := ⟨.hbm, 145, rfl⟩
abbrev main_v112 : Ref sig .tc := ⟨.hbm, 146, rfl⟩
abbrev main_v113 : Ref sig .tc := ⟨.hbm, 147, rfl⟩
abbrev main_cst_13 : Ref sig .tc := ⟨.hbm, 148, rfl⟩
abbrev main_v114 : Ref sig .tc := ⟨.hbm, 149, rfl⟩
abbrev main_cst_14 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_15 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_16 : Ref sig .tc := ⟨.hbm, 165, rfl⟩
abbrev main_v128 : Ref sig .tc := ⟨.hbm, 166, rfl⟩
abbrev main_values : Ref sig .tc := ⟨.hbm, 167, rfl⟩
abbrev main_indices : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_17 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_c_18 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_19 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_20 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_21 : Ref sig .tc := ⟨.hbm, 215, rfl⟩
abbrev main_v171 : Ref sig .tc := ⟨.hbm, 216, rfl⟩
abbrev main_v172 : Ref sig .tc := ⟨.hbm, 217, rfl⟩
abbrev main_cst_22 : Ref sig .tc := ⟨.hbm, 218, rfl⟩
abbrev main_v173 : Ref sig .tc := ⟨.hbm, 219, rfl⟩
abbrev main_cst_23 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_24 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_c_25 : Ref sig .tc := ⟨.hbm, 242, rfl⟩
abbrev main_v194 : Ref sig .tc := ⟨.hbm, 243, rfl⟩
abbrev main_v195 : Ref sig .tc := ⟨.hbm, 244, rfl⟩
abbrev main_c_26 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_27 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_cst_28 : Ref sig .tc := ⟨.hbm, 256, rfl⟩
abbrev main_v205 : Ref sig .tc := ⟨.hbm, 257, rfl⟩
abbrev main_v206 : Ref sig .tc := ⟨.hbm, 258, rfl⟩
abbrev main_cst_29 : Ref sig .tc := ⟨.hbm, 259, rfl⟩
abbrev main_v207 : Ref sig .tc := ⟨.hbm, 260, rfl⟩
abbrev main_cst_30 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_cst_31 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩

abbrev nD : Nat := 1
abbrev τ : Topo := Topo.v7x

variable {F : FTy → Type} [FloatOps F]

def κ : String → Option EReal := fun
  | "inv_sqrt2" => some (((Real.sqrt 2)⁻¹ : ℝ) : EReal)
  | "mask" => some ⊥
  | _ => none
-- ==== Proof.Launch.lean ====
/- The kernel program's run: its result array and its arguments in every final state. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- From any memory with zero counters every run of the kernel program ends, nothing faulting, with its result array as
    the last thread state holds it and its arguments as launched. -/
theorem run_value : θ_run defs (onTc (τ := τ) (main (F := F))) ⟨m, fun _ => 0, ρ⟩ (fun r => ∀ c : Dev nD,
      r.2.mem ((c.tc : Thread nD τ).loc main_v56) = W19 m ρ c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => fun c =>
      ⟨h c _ (mem_uc main_v56 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c)⟩)

end Cert.Proof
-- ==== Proof.Spec.lean ====
/- Functions both programs compute at the extended reals: the masked attention of one query row, its restriction to the
   columns that can carry weight, and the integer words and constants the masks are written with. -/
module

public import proofs.«01_k».proof.KernelIdeal
public import Idealize.ShloMosaic.Lib.Pointwise
public import Idealize.ShloMosaic.PureOps.Ideal.Laws
public import Idealize.ShloMosaic.Lib.WordArith

@[expose] public section

set_option maxRecDepth 16384

noncomputable section

open Idealize.ShloMosaic

namespace Cert.Proof

/-- The largest of a row of scores (`⊥` for an empty row). -/
def rowMax {n : Nat} (s : Fin n → EReal) : EReal := Finset.univ.fold max ⊥ s

/-- The softmax denominator of a row of scores. -/
def rowDen {n : Nat} (s : Fin n → EReal) : EReal := ∑ j, Ideal.exp (s j - rowMax s)

/-- One softmax weight of a row of scores. -/
def soft {n : Nat} (s : Fin n → EReal) (j : Fin n) : EReal := Ideal.div (Ideal.exp (s j - rowMax s)) (rowDen s)

/-- The attention output of a row: the softmax of the scores against the values. -/
def att {n : Nat} (s v : Fin n → EReal) : EReal := ∑ j, soft s j * v j

theorem rowMax_eq_sup {n : Nat} (s : Fin n → EReal) : rowMax s = Finset.univ.sup s := rfl

theorem le_rowMax {n : Nat} (s : Fin n → EReal) (j : Fin n) : s j ≤ rowMax s := by
  rw [rowMax_eq_sup]; exact Finset.le_sup (Finset.mem_univ j)

/-- Columns of score `⊥` do not change the maximum. -/
theorem rowMax_comp {n k : Nat} (e : Fin k → Fin n) (s : Fin n → EReal)
    (hoff : ∀ j, (∀ i, e i ≠ j) → s j = ⊥) : rowMax s = rowMax (fun i => s (e i)) := by
  apply le_antisymm
  · rw [rowMax_eq_sup]
    refine Finset.sup_le fun j _ => ?_
    by_cases h : ∃ i, e i = j
    · obtain ⟨i, rfl⟩ := h
      exact le_rowMax (fun i => s (e i)) i
    · rw [hoff j (fun i hi => h ⟨i, hi⟩)]; exact bot_le
  · rw [rowMax_eq_sup (fun i => s (e i))]
    exact Finset.sup_le fun i _ => le_rowMax s (e i)

theorem exp_bot_sub (m : EReal) : Ideal.exp (⊥ - m) = 0 := by
  rw [EReal.bot_sub]; rfl

/-- A sum over all columns is the sum over the columns of an injective list, the others contributing nothing. -/
theorem sum_comp {n k : Nat} (e : Fin k → Fin n) (he : Function.Injective e) (f : Fin n → EReal)
    (hoff : ∀ j, (∀ i, e i ≠ j) → f j = 0) : ∑ j, f j = ∑ i, f (e i) := by
  classical
  rw [← Finset.sum_image (s := Finset.univ) (g := e) (f := f) (fun a _ b _ h => he h)]
  symm
  refine Finset.sum_subset (Finset.subset_univ _) fun j _ hj => hoff j fun i hi => hj ?_
  exact Finset.mem_image.mpr ⟨i, Finset.mem_univ i, hi⟩

/-- Columns that are masked everywhere may be left out of the denominator. -/
theorem rowDen_comp {n k : Nat} (e : Fin k → Fin n) (he : Function.Injective e) (s : Fin n → EReal)
    (hoff : ∀ j, (∀ i, e i ≠ j) → s j = ⊥) : rowDen s = rowDen (fun i => s (e i)) := by
  unfold rowDen
  rw [← rowMax_comp e s hoff]
  exact sum_comp e he _ fun j hj => by rw [hoff j hj]; exact exp_bot_sub _

/-- A masked column has weight zero. -/
theorem soft_off {n : Nat} (s : Fin n → EReal) (hd : rowDen s ≠ 0) (j : Fin n) (hj : s j = ⊥) : soft s j = 0 := by
  unfold soft
  rw [hj, exp_bot_sub, Ideal.div, if_neg hd, zero_mul]

/-- Columns that are masked everywhere may be left out of a weight. -/
theorem soft_comp {n k : Nat} (e : Fin k → Fin n) (he : Function.Injective e) (s : Fin n → EReal)
    (hoff : ∀ j, (∀ i, e i ≠ j) → s j = ⊥) (i : Fin k) : soft s (e i) = soft (fun i => s (e i)) i := by
  unfold soft
  rw [← rowMax_comp e s hoff, ← rowDen_comp e he s hoff]

/-- The attention over all columns is the attention over the columns of an injective list, when every other column is
    masked (`⊥`) and the denominator is not zero. -/
theorem att_comp {n k : Nat} (e : Fin k → Fin n) (he : Function.Injective e) (s v : Fin n → EReal)
    (hoff : ∀ j, (∀ i, e i ≠ j) → s j = ⊥) (hd : rowDen s ≠ 0) :
    att s v = att (fun i => s (e i)) (fun i => v (e i)) := by
  unfold att
  rw [sum_comp e he (fun j => soft s j * v j) fun j hj => by rw [soft_off s hd j (hoff j hj), zero_mul]]
  exact Finset.sum_congr rfl fun i _ => by rw [soft_comp e he s hoff i]

/-! ## Rows with a finite score -/

theorem exp_nonneg (x : EReal) : 0 ≤ Ideal.exp x := by
  induction x using EReal.rec with
  | bot => exact le_refl _
  | top => exact le_top
  | coe r => exact EReal.coe_nonneg.mpr (Real.exp_pos r).le

theorem exp_pos_of_ne_bot {x : EReal} (h : x ≠ ⊥) : 0 < Ideal.exp x := by
  induction x using EReal.rec with
  | bot => exact absurd rfl h
  | top => exact EReal.zero_lt_top
  | coe r => exact EReal.coe_pos.mpr (Real.exp_pos r)

theorem exp_le_one {x : EReal} (h : x ≤ 0) : Ideal.exp x ≤ 1 := by
  induction x using EReal.rec with
  | bot => exact zero_le_one
  | top => exact absurd (top_le_iff.mp h) (by decide)
  | coe r => exact EReal.coe_le_coe_iff.mpr (Real.exp_le_one_iff.mpr (EReal.coe_nonpos.mp h))

/-- The largest of scores below positive infinity is below it. -/
theorem rowMax_ne_top {n : Nat} (s : Fin n → EReal) (h : ∀ j, s j ≠ ⊤) : rowMax s ≠ ⊤ := by
  rw [rowMax_eq_sup]
  refine ne_of_lt ((Finset.sup_lt_iff bot_lt_top).mpr fun j _ => lt_top_iff_ne_top.mpr (h j))

/-- The weight's numerator is positive exactly off the masked columns. -/
theorem num_pos {n : Nat} (s : Fin n → EReal) (h : ∀ j, s j ≠ ⊤) (j : Fin n) (hj : s j ≠ ⊥) :
    0 < Ideal.exp (s j - rowMax s) := by
  refine exp_pos_of_ne_bot ?_
  have hm := rowMax_ne_top s h
  rw [sub_eq_add_neg]
  intro hb
  rcases EReal.add_eq_bot_iff.mp hb with hb | hb
  · exact hj hb
  · exact hm (EReal.neg_eq_bot_iff.mp hb)

/-- The denominator is positive if some column is not masked. -/
theorem rowDen_pos {n : Nat} (s : Fin n → EReal) (h : ∀ j, s j ≠ ⊤) (j : Fin n) (hj : s j ≠ ⊥) : 0 < rowDen s :=
  lt_of_lt_of_le (num_pos s h j hj)
    (Finset.single_le_sum (f := fun j => Ideal.exp (s j - rowMax s)) (fun i _ => exp_nonneg _) (Finset.mem_univ j))

/-- The denominator is finite. -/
theorem rowDen_ne_top {n : Nat} (s : Fin n → EReal) (h : ∀ j, s j ≠ ⊤) : rowDen s ≠ ⊤ := by
  have hle : ∀ j : Fin n, Ideal.exp (s j - rowMax s) ≤ 1 := fun j => by
    refine exp_le_one ?_
    by_cases hb : s j = ⊥
    · rw [hb, EReal.bot_sub]; exact bot_le
    · exact EReal.sub_nonpos.mpr (le_rowMax s j)
  unfold rowDen
  refine ne_of_lt (lt_of_le_of_lt (Finset.sum_le_card_nsmul Finset.univ _ 1 fun j _ => hle j) ?_)
  have e : (Finset.univ : Finset (Fin n)).card • (1 : EReal) = (((Finset.univ : Finset (Fin n)).card : ℝ) : EReal) := by
    rw [← EReal.coe_one, ← EReal.coe_nsmul, nsmul_eq_mul, mul_one]
  rw [e]; exact EReal.coe_lt_top _

/-- A weight is never negative when the row has an unmasked column and no infinite score, and is positive off the
    masked columns. -/
theorem soft_pos {n : Nat} (s : Fin n → EReal) (h : ∀ j, s j ≠ ⊤) (j : Fin n) (hj : s j ≠ ⊥) : 0 < soft s j := by
  have hd := rowDen_pos s h j hj
  unfold soft
  rw [Ideal.div, if_neg hd.ne']
  exact EReal.mul_pos (num_pos s h j hj) (EReal.inv_pos_of_pos_ne_top hd (rowDen_ne_top s h))

theorem soft_nonneg {n : Nat} (s : Fin n → EReal) (hd : 0 < rowDen s) (j : Fin n) : 0 ≤ soft s j := by
  unfold soft
  rw [Ideal.div, if_neg hd.ne']
  exact EReal.mul_nonneg (exp_nonneg _) (EReal.inv_nonneg_of_nonneg hd.le)

/-! ## Finite values -/

/-- Neither infinity. -/
def Fin' (x : EReal) : Prop := x ≠ ⊥ ∧ x ≠ ⊤

theorem fin'_iff {x : EReal} : Fin' x ↔ ∃ r : ℝ, x = r := by
  constructor
  · rintro ⟨h1, h2⟩
    exact ⟨x.toReal, (EReal.coe_toReal h2 h1).symm⟩
  · rintro ⟨r, rfl⟩
    exact ⟨EReal.coe_ne_bot r, EReal.coe_ne_top r⟩

theorem Fin'.add {x y : EReal} (hx : Fin' x) (hy : Fin' y) : Fin' (x + y) := by
  obtain ⟨a, rfl⟩ := fin'_iff.mp hx; obtain ⟨b, rfl⟩ := fin'_iff.mp hy
  exact fin'_iff.mpr ⟨a + b, (EReal.coe_add a b).symm⟩

theorem Fin'.mul {x y : EReal} (hx : Fin' x) (hy : Fin' y) : Fin' (x * y) := by
  obtain ⟨a, rfl⟩ := fin'_iff.mp hx; obtain ⟨b, rfl⟩ := fin'_iff.mp hy
  exact fin'_iff.mpr ⟨a * b, (EReal.coe_mul a b).symm⟩

theorem Fin'.sum {ι : Type} (s : Finset ι) (f : ι → EReal) (h : ∀ i ∈ s, Fin' (f i)) : Fin' (∑ i ∈ s, f i) := by
  classical
  induction s using Finset.induction_on with
  | empty => exact fin'_iff.mpr ⟨0, by simp⟩
  | insert a s ha ih =>
    rw [Finset.sum_insert ha]
    exact (h a (Finset.mem_insert_self a s)).add (ih fun i hi => h i (Finset.mem_insert_of_mem hi))

/-- A nonnegative real factor comes out of a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-! ## Constants -/

theorem bits_half : Ideal.ofBits .f32 1056964608#32 = ((2⁻¹ : ℝ) : EReal) := by
  simp [Ideal.ofBits, Ideal.ieee]; norm_cast; norm_num

theorem bits_eighth : Ideal.ofBits .f32 1040187392#32 = ((8⁻¹ : ℝ) : EReal) := by
  simp [Ideal.ofBits, Ideal.ieee]; norm_cast; norm_num

theorem bits_ninf : Ideal.ofBits .f32 4286578688#32 = ⊥ := by
  simp [Ideal.ofBits, Ideal.ieee]

theorem bits_neg_one : Ideal.ofBits .f32 0xBF800000#32 = ((-1 : ℝ) : EReal) := by
  simp [Ideal.ofBits, Ideal.ieee]; norm_cast; norm_num

theorem bits_neg_two : Ideal.ofBits .f32 0xC0000000#32 = ((-2 : ℝ) : EReal) := by
  simp [Ideal.ofBits, Ideal.ieee]; norm_cast; norm_num

theorem mask_bot : Named.named Cert.KernelIdeal.κ "mask" (F := Ideal) (φ := .f32) 3463342888#32 = (⊥ : EReal) := by rfl

/-! ## Words -/

theorem ofNat_toInt {a : Nat} (h : a < 2 ^ 31) : (BitVec.ofNat 32 a).toInt = a := by
  rw [BitVec.toInt_ofNat']
  exact Int.bmod_eq_of_le (by omega) (by omega)

theorem addi_word (a b : Nat) : IntOp.addi (BitVec.ofNat 32 a) (BitVec.ofNat 32 b) = BitVec.ofNat 32 (a + b) :=
  (BitVec.ofNat_add a b).symm

theorem sle_word {a b : Nat} (ha : a < 2 ^ 31) (hb : b < 2 ^ 31) :
    IntOp.cmpi .sle (BitVec.ofNat 32 a) (BitVec.ofNat 32 b) = BitVec.ofBool (decide (a ≤ b)) := by
  unfold IntOp.cmpi
  simp only [BitVec.sle_eq_decide, ofNat_toInt ha, ofNat_toInt hb, Nat.cast_le]

theorem subi_toInt {a b : Nat} (ha : a < 2 ^ 30) (hb : b < 2 ^ 30) :
    (IntOp.subi (BitVec.ofNat 32 a) (BitVec.ofNat 32 b)).toInt = (a : Int) - b := by
  show (BitVec.ofNat 32 a - BitVec.ofNat 32 b).toInt = _
  rw [BitVec.toInt_sub, ofNat_toInt (by omega), ofNat_toInt (by omega)]
  exact Int.bmod_eq_of_le (by omega) (by omega)

theorem sge_sub_word {a b : Nat} (ha : a < 2 ^ 30) (hb : b < 2 ^ 30) :
    IntOp.cmpi .sge (IntOp.subi (BitVec.ofNat 32 a) (BitVec.ofNat 32 b)) 0#32 = BitVec.ofBool (decide (b ≤ a)) := by
  unfold IntOp.cmpi
  simp only [BitVec.sle_eq_decide, subi_toInt ha hb]
  congr 1
  exact decide_eq_decide.mpr (by simp)

theorem slt_sub_word {a b : Nat} (ha : a < 2 ^ 30) (hb : b < 2 ^ 30) :
    IntOp.cmpi .slt (IntOp.subi (BitVec.ofNat 32 a) (BitVec.ofNat 32 b)) 512#32
      = BitVec.ofBool (decide (a < b + 512)) := by
  unfold IntOp.cmpi
  simp only [BitVec.slt_eq_decide, subi_toInt ha hb]
  congr 1
  exact decide_eq_decide.mpr (by rw [ofNat_toInt (a := 512) (by omega)]; omega)

theorem eq_word {a b : Nat} (ha : a < 2 ^ 32) (hb : b < 2 ^ 32) :
    IntOp.cmpi .eq (BitVec.ofNat 32 a) (BitVec.ofNat 32 b) = BitVec.ofBool (decide (a = b)) := by
  unfold IntOp.cmpi
  congr 1
  simp only [beq_eq_decide]
  refine decide_eq_decide.mpr ⟨fun h => ?_, fun h => by rw [h]⟩
  have := congrArg BitVec.toNat h
  rwa [BitVec.toNat_ofNat, BitVec.toNat_ofNat, Nat.mod_eq_of_lt ha, Nat.mod_eq_of_lt hb] at this

theorem andi_ofBool (a b : Bool) : IntOp.andi (BitVec.ofBool a) (BitVec.ofBool b) = BitVec.ofBool (a && b) := by
  cases a <;> cases b <;> rfl

theorem ori_ofBool (a b : Bool) : IntOp.ori (BitVec.ofBool a) (BitVec.ofBool b) = BitVec.ofBool (a || b) := by
  cases a <;> cases b <;> rfl

theorem select_ofBool {α : Type} (b : Bool) (x y : α) : Scalar.select (BitVec.ofBool b) x y = if b = true then x else y := by
  cases b <;> rfl

end Cert.Proof
-- ==== Proof.Swin.lean ====
/- The value each of the four attention calls stores, at one index, as the gated sum of the compressed output, the
   selected attention and the window attention of a query row. -/
module

public import proofs.«01_k».proof.Proof.Spec
public import proofs.«01_k».proof.Proof.Gen.KernelIdeal
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Proof

/-- A query row against a key row, the query scaled by one eighth. -/
def dotq (q k : Fin 64 → EReal) : EReal := ∑ d, q d * ((8⁻¹ : ℝ) : EReal) * k d

/-- The block mask at a token: the mask entry of the token's half block. -/
def maskAt (cm : Fin 128 → EReal) (j : Nat) : EReal := ∑ c : Fin 128, cm c * (if j / 16 = c.val then 1 else 0)

/-- The selected branch's score of a token: the product where the token's block is selected and the token is not after
    the query, `⊥` elsewhere. -/
def selScore {n : Nat} (cm : Fin 128 → EReal) (q : Fin 64 → EReal) (k : Fin n → Fin 64 → EReal) (t : Nat)
    (j : Fin n) : EReal :=
  if (decide (((2⁻¹ : ℝ) : EReal) < maskAt cm j) && decide (j.val ≤ t)) = true then dotq q (k j) else ⊥

/-- The window branch's score of a token (its position `off` further on): the product where the token is one of the last
    512 up to the query, `⊥` elsewhere. -/
def winScore {n : Nat} (q : Fin 64 → EReal) (k : Fin n → Fin 64 → EReal) (t off : Nat) (j : Fin n) : EReal :=
  if (decide (j.val + off ≤ t) && decide (t < j.val + off + 512)) = true then dotq q (k j) else ⊥

/-- The word the mask expansion compares: the token's position divided by 16, rounded down. -/
theorem fdiv_word : ∀ j : Fin 2048, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 j.val) 16#32) 0#32))
          (IntOp.subi (IntOp.divsi ArithUnit.vector (BitVec.ofNat 32 j.val) 16#32) 1#32)
          (IntOp.divsi ArithUnit.vector (BitVec.ofNat 32 j.val) 16#32) = BitVec.ofNat 32 (j.val / 16) := by
  decide +kernel

theorem ind_word (a c : Nat) (ha : a < 2 ^ 32) (hc : c < 2 ^ 32) :
    (FloatOps.sitofp .f32 (BitVec.setWidth 32 (IntOp.cmpi .eq (BitVec.ofNat 32 a) (BitVec.ofNat 32 c))) : Ideal .f32)
      = (if a = c then (1 : EReal) else 0) := by
  rw [eq_word ha hc]
  by_cases h : a = c
  · rw [if_pos h, decide_eq_true h]
    show (((BitVec.setWidth 32 (BitVec.ofBool true)).toInt : ℝ) : EReal) = 1
    rw [show (BitVec.setWidth 32 (BitVec.ofBool true)).toInt = 1 by decide]; norm_cast
  · rw [if_neg h, decide_eq_false h]
    show (((BitVec.setWidth 32 (BitVec.ofBool false)).toInt : ℝ) : EReal) = 0
    rw [show (BitVec.setWidth 32 (BitVec.ofBool false)).toInt = 0 by decide]; norm_cast

theorem sel_word {j t q : Nat} (hj : j < 2 ^ 30) (ht : t < 2 ^ 30) (hq : q < 2 ^ 30) :
    IntOp.cmpi .sle (BitVec.ofNat 32 j) (IntOp.addi (BitVec.ofNat 32 t) (BitVec.ofNat 32 q))
      = BitVec.ofBool (decide (j ≤ t + q)) := by
  rw [addi_word, sle_word (by omega) (by omega)]

theorem win_word {j t q o : Nat} (hj : j < 2 ^ 20) (ht : t < 2 ^ 20) (hq : q < 2 ^ 20) (ho : o < 2 ^ 20) :
    IntOp.andi
      (IntOp.cmpi .sge (IntOp.subi (IntOp.addi (BitVec.ofNat 32 t) (BitVec.ofNat 32 q))
        (IntOp.addi (BitVec.ofNat 32 j) (BitVec.ofNat 32 o))) 0#32)
      (IntOp.cmpi .slt (IntOp.subi (IntOp.addi (BitVec.ofNat 32 t) (BitVec.ofNat 32 q))
        (IntOp.addi (BitVec.ofNat 32 j) (BitVec.ofNat 32 o))) 512#32)
      = BitVec.ofBool (decide (j + o ≤ t + q) && decide (t + q < j + o + 512)) := by
  rw [addi_word, addi_word, sge_sub_word (by omega) (by omega), slt_sub_word (by omega) (by omega), andi_ofBool]

/-- The expansion matrix of the call, at an index. -/
theorem k3_pay4_apply (c : Fin 128) (j : Fin 512) :
    (FloatOps.sitofp .f32 (k3_pay4 (ix2 c j)) : Ideal .f32) = (if j.val / 16 = c.val then (1 : EReal) else 0) := by
  pointwise [k3_pay4]
  rw [fdiv_word ⟨j.val, by omega⟩, ind_word _ _ (by omega) (by omega)]
theorem k4_pay4_apply (c : Fin 128) (j : Fin 1024) :
    (FloatOps.sitofp .f32 (k4_pay4 (ix2 c j)) : Ideal .f32) = (if j.val / 16 = c.val then (1 : EReal) else 0) := by
  pointwise [k4_pay4]
  rw [fdiv_word ⟨j.val, by omega⟩, ind_word _ _ (by omega) (by omega)]
theorem k5_pay4_apply (c : Fin 128) (j : Fin 1536) :
    (FloatOps.sitofp .f32 (k5_pay4 (ix2 c j)) : Ideal .f32) = (if j.val / 16 = c.val then (1 : EReal) else 0) := by
  pointwise [k5_pay4]
  rw [fdiv_word ⟨j.val, by omega⟩, ind_word _ _ (by omega) (by omega)]
theorem k6_pay4_apply (c : Fin 128) (j : Fin 2048) :
    (FloatOps.sitofp .f32 (k6_pay4 (ix2 c j)) : Ideal .f32) = (if j.val / 16 = c.val then (1 : EReal) else 0) := by
  pointwise [k6_pay4]
  rw [fdiv_word ⟨j.val, by omega⟩, ind_word _ _ (by omega) (by omega)]

/-- What an attention call of query offset `q0`, `n` selected-branch columns and `w` window columns from `off` stores at
    (head group, row, feature), from its blocks. -/
def swinAt (q0 n w off : Nat) (x0 : S3x1x512x64.Idx → EReal) (x1 x2 : Fin n → Fin 64 → EReal)
    (x3 x4 : Fin w → Fin 64 → EReal) (x5 : S1x512x128.Idx → EReal) (x6 : S1x3x512x3.Idx → EReal)
    (x7 : S3x1x512x64.Idx → EReal) (r : Fin 3) (t : Fin 512) (d : Fin 64) : EReal :=
  x6 (ix4 0 r t 0) * x7 (ix4 r 0 t d)
    + x6 (ix4 0 r t 1) * att (selScore (fun c => x5 (ix3 0 t c)) (fun e => x0 (ix4 r 0 t e)) x1 (t.val + q0))
        (fun j => x2 j d)
    + x6 (ix4 0 r t 2) * att (winScore (fun e => x0 (ix4 r 0 t e)) x3 (t.val + q0) off) (fun j => x4 j d)

/-- What the first attention call stores at an index. -/
theorem k3_out (x0 : Vec Ideal S3x1x512x64 .f32) (x1 x2 x3 x4 : Vec Ideal S1x512x64 .f32)
    (x5 : Vec Ideal S1x512x128 .f32) (x6 : Vec Ideal S1x3x512x3 .f32) (x7 : Vec Ideal S3x1x512x64 .f32)
    (r : Fin 3) (z : Fin 1) (t : Fin 512) (d : Fin 64) :
    k3_pay10 (F := Ideal) (k3_pay5 (k3_pay2 x0 x1) (k3_pay3 x5) k3_pay4 x2) (k3_pay6 x4) (k3_pay7 (k3_pay1 x0) x3)
        k3_pay8 k3_pay9 x6 x7 (ix4 r z t d)
      = swinAt 0 512 512 0 x0 (fun j e => x1 (ix3 0 j e)) (fun j e => x2 (ix3 0 j e)) (fun j e => x3 (ix3 0 j e))
          (fun j e => x4 (ix3 0 j e)) x5 x6 x7 r t d := by
  pointwise [k3_pay10, k3_pay1, k3_pay2, k3_pay3, k3_pay5, k3_pay6, k3_pay7, k3_pay8, k3_pay9]
  simp (disch := omega) only [k3_pay4_apply, sel_word, win_word, andi_ofBool, select_ofBool, mask_bot, bits_half,
    bits_eighth, bits_ninf]
  rfl

/-- What the second attention call stores at an index. -/
theorem k4_out (x0 : Vec Ideal S3x1x512x64 .f32) (x1 x2 x3 x4 : Vec Ideal S1x1024x64 .f32)
    (x5 : Vec Ideal S1x512x128 .f32) (x6 : Vec Ideal S1x3x512x3 .f32) (x7 : Vec Ideal S3x1x512x64 .f32)
    (r : Fin 3) (z : Fin 1) (t : Fin 512) (d : Fin 64) :
    k4_pay10 (F := Ideal) (k4_pay5 (k4_pay2 x0 x1) (k4_pay3 x5) k4_pay4 x2) (k4_pay6 x4) (k4_pay7 (k4_pay1 x0) x3)
        k4_pay8 k4_pay9 x6 x7 (ix4 r z t d)
      = swinAt 512 1024 1024 0 x0 (fun j e => x1 (ix3 0 j e)) (fun j e => x2 (ix3 0 j e)) (fun j e => x3 (ix3 0 j e))
          (fun j e => x4 (ix3 0 j e)) x5 x6 x7 r t d := by
  pointwise [k4_pay10, k4_pay1, k4_pay2, k4_pay3, k4_pay5, k4_pay6, k4_pay7, k4_pay8, k4_pay9]
  simp (disch := omega) only [k4_pay4_apply, sel_word, win_word, andi_ofBool, select_ofBool, mask_bot, bits_half,
    bits_eighth, bits_ninf]
  rfl

/-- What the third attention call stores at an index. -/
theorem k5_out (x0 : Vec Ideal S3x1x512x64 .f32) (x1 x2 : Vec Ideal S1x1536x64 .f32) (x3 x4 : Vec Ideal S1x1024x64 .f32)
    (x5 : Vec Ideal S1x512x128 .f32) (x6 : Vec Ideal S1x3x512x3 .f32) (x7 : Vec Ideal S3x1x512x64 .f32)
    (r : Fin 3) (z : Fin 1) (t : Fin 512) (d : Fin 64) :
    k5_pay10 (F := Ideal) (k5_pay5 (k5_pay2 x0 x1) (k5_pay3 x5) k5_pay4 x2) (k5_pay6 x4) (k5_pay7 (k5_pay1 x0) x3)
        k5_pay8 k5_pay9 x6 x7 (ix4 r z t d)
      = swinAt 1024 1536 1024 512 x0 (fun j e => x1 (ix3 0 j e)) (fun j e => x2 (ix3 0 j e)) (fun j e => x3 (ix3 0 j e))
          (fun j e => x4 (ix3 0 j e)) x5 x6 x7 r t d := by
  pointwise [k5_pay10, k5_pay1, k5_pay2, k5_pay3, k5_pay5, k5_pay6, k5_pay7, k5_pay8, k5_pay9]
  simp (disch := omega) only [k5_pay4_apply, sel_word, win_word, andi_ofBool, select_ofBool, mask_bot, bits_half,
    bits_eighth, bits_ninf]
  rfl

/-- What the fourth attention call stores at an index. -/
theorem k6_out (x0 : Vec Ideal S3x1x512x64 .f32) (x1 x2 : Vec Ideal S1x2048x64 .f32) (x3 x4 : Vec Ideal S1x1024x64 .f32)
    (x5 : Vec Ideal S1x512x128 .f32) (x6 : Vec Ideal S1x3x512x3 .f32) (x7 : Vec Ideal S3x1x512x64 .f32)
    (r : Fin 3) (z : Fin 1) (t : Fin 512) (d : Fin 64) :
    k6_pay10 (F := Ideal) (k6_pay5 (k6_pay2 x0 x1) (k6_pay3 x5) k6_pay4 x2) (k6_pay6 x4) (k6_pay7 (k6_pay1 x0) x3)
        k6_pay8 k6_pay9 x6 x7 (ix4 r z t d)
      = swinAt 1536 2048 1024 1024 x0 (fun j e => x1 (ix3 0 j e)) (fun j e => x2 (ix3 0 j e)) (fun j e => x3 (ix3 0 j e))
          (fun j e => x4 (ix3 0 j e)) x5 x6 x7 r t d := by
  pointwise [k6_pay10, k6_pay1, k6_pay2, k6_pay3, k6_pay5, k6_pay6, k6_pay7, k6_pay8, k6_pay9]
  simp (disch := omega) only [k6_pay4_apply, sel_word, win_word, andi_ofBool, select_ofBool, mask_bot, bits_half,
    bits_eighth, bits_ninf]
  rfl

end Cert.Proof
-- ==== Proof.Select.lean ====
/- Sixteen rounds of choosing the largest remaining weight, the lowest position first, choose the first sixteen positions
   of the stable descending sort. -/
module

public import proofs.«01_k».proof.Proof.Spec
public import Idealize.ShloMosaic.Lib.SortPrefix

@[expose] public section

set_option maxRecDepth 16384

noncomputable section

open Idealize.ShloMosaic

namespace Cert.Proof

/-- A row of weights with the positions already chosen set to -2. -/
def candR (w : Fin 128 → EReal) (σ : Fin 128 → Bool) (n : Fin 128) : EReal := if σ n = true then ((-2 : ℝ) : EReal) else w n

/-- The lowest position at which a row reaches its largest entry. -/
def IsFirst (f : Fin 128 → EReal) (n : Fin 128) : Prop := f n = rowMax f ∧ ∀ m, f m = rowMax f → n ≤ m

open Classical in
/-- One round of the choice. -/
def stepR (w : Fin 128 → EReal) (σ : Fin 128 → Bool) (n : Fin 128) : Bool := σ n || decide (IsFirst (candR w σ) n)

/-- The positions chosen after some rounds. -/
def chosen (w : Fin 128 → EReal) : Nat → Fin 128 → Bool
  | 0 => fun _ => false
  | k + 1 => stepR w (chosen w k)

/-- A row reaches its largest entry first somewhere. -/
theorem exists_isFirst (f : Fin 128 → EReal) : ∃ n, IsFirst f n := by
  classical
  obtain ⟨i, -, hi⟩ := Finset.exists_mem_eq_sup (Finset.univ : Finset (Fin 128)) ⟨0, Finset.mem_univ _⟩ f
  have hne : (Finset.univ.filter fun n => f n = rowMax f).Nonempty :=
    ⟨i, by rw [Finset.mem_filter]; exact ⟨Finset.mem_univ _, hi.symm⟩⟩
  refine ⟨(Finset.univ.filter fun n => f n = rowMax f).min' hne, ?_, fun m hm => ?_⟩
  · exact (Finset.mem_filter.mp (Finset.min'_mem _ hne)).2
  · exact Finset.min'_le _ m (Finset.mem_filter.mpr ⟨Finset.mem_univ m, hm⟩)

/-- It does so at one position only. -/
theorem IsFirst.unique {f : Fin 128 → EReal} {a b : Fin 128} (ha : IsFirst f a) (hb : IsFirst f b) : a = b :=
  le_antisymm (ha.2 b hb.1) (hb.2 a ha.1)

/-- The position chosen in round `k`. -/
def pick (w : Fin 128 → EReal) (k : Nat) : Fin 128 := (exists_isFirst (candR w (chosen w k))).choose

/-- A round's pick is the first position of the largest remaining entry. -/
theorem pick_spec (w : Fin 128 → EReal) (k : Nat) : IsFirst (candR w (chosen w k)) (pick w k) :=
  (exists_isFirst (candR w (chosen w k))).choose_spec

/-- The chosen positions are the picks of the rounds so far. -/
theorem chosen_iff (w : Fin 128 → EReal) (k : Nat) (n : Fin 128) : chosen w k n = true ↔ ∃ i < k, pick w i = n := by
  classical
  induction k with
  | zero => simp [chosen]
  | succ k ih =>
    rw [chosen, stepR, Bool.or_eq_true, ih, decide_eq_true_eq]
    constructor
    · rintro (⟨i, hi, e⟩ | h)
      · exact ⟨i, by omega, e⟩
      · exact ⟨k, by omega, (pick_spec w k).unique h⟩
    · rintro ⟨i, hi, e⟩
      rcases Nat.lt_succ_iff_lt_or_eq.mp hi with h | rfl
      · exact Or.inl ⟨i, h, e⟩
      · exact Or.inr (e ▸ pick_spec w i)

section
variable (w : Fin 128 → EReal) (hw : ∀ n : Fin 128, n.val < 127 → 0 ≤ w n) (hp : w 127 = ((-1 : ℝ) : EReal))
include hw

/-- Before 127 rounds some block is not chosen yet. -/
theorem exists_unchosen (k : Nat) (hk : k < 127) : ∃ n : Fin 128, n.val < 127 ∧ chosen w k n = false := by
  classical
  by_contra hc
  push Not at hc
  have hsub : (Finset.univ.image fun n : Fin 127 => (n.castLE (by omega) : Fin 128)) ⊆ (Finset.range k).image (pick w) := by
    intro n hn
    obtain ⟨m, -, rfl⟩ := Finset.mem_image.mp hn
    have := hc (m.castLE (by omega)) m.isLt
    rw [Ne, Bool.not_eq_false, chosen_iff] at this
    obtain ⟨i, hi, e⟩ := this
    exact Finset.mem_image.mpr ⟨i, Finset.mem_range.mpr hi, e⟩
  have h1 := Finset.card_le_card hsub
  rw [Finset.card_image_of_injective _ (Fin.castLE_injective _), Finset.card_univ, Fintype.card_fin] at h1
  have h2 := Finset.card_image_le (s := Finset.range k) (f := pick w)
  rw [Finset.card_range] at h2
  omega

theorem pick_nonneg (k : Nat) (hk : k < 127) : 0 ≤ candR w (chosen w k) (pick w k) := by
  obtain ⟨n, hn, hs⟩ := exists_unchosen w hw k hk
  rw [(pick_spec w k).1]
  refine le_trans (hw n hn) (le_trans (le_of_eq ?_) (le_rowMax _ n))
  rw [candR, hs]; rfl

/-- A round picks a position that was not chosen. -/
theorem pick_unchosen (k : Nat) (hk : k < 127) : chosen w k (pick w k) = false := by
  have h := pick_nonneg w hw k hk
  by_contra hc
  rw [Bool.not_eq_false] at hc
  rw [candR, if_pos hc] at h
  have := EReal.coe_nonneg.mp h
  norm_num at this

theorem candR_pick (k : Nat) (hk : k < 127) : candR w (chosen w k) (pick w k) = w (pick w k) := by
  rw [candR, pick_unchosen w hw k hk]; rfl

/-- A pick is at least as large as every position not chosen, and the first among equals. -/
theorem pick_best (k : Nat) (hk : k < 127) (m : Fin 128) (hm : chosen w k m = false) :
    w m ≤ w (pick w k) ∧ (w m = w (pick w k) → pick w k ≤ m) := by
  have hs := pick_spec w k
  have e : candR w (chosen w k) m = w m := by rw [candR, hm]; rfl
  have hk' := candR_pick w hw k hk
  constructor
  · rw [← hk', hs.1, ← e]; exact le_rowMax _ m
  · intro h
    exact hs.2 m (by rw [e, h, ← hk', hs.1])

include hp

/-- The padded position is never picked. -/
theorem pick_lt (k : Nat) (hk : k < 127) : (pick w k).val < 127 := by
  have h := pick_nonneg w hw k hk
  rw [candR_pick w hw k hk] at h
  by_contra hc
  have e : pick w k = 127 := Fin.ext (by have := (pick w k).isLt; show (pick w k).val = 127; omega)
  rw [e, hp] at h
  have := EReal.coe_nonneg.mp h
  norm_num at this
end

/-! ## The stable sort -/

/-- A stable sort of increasing positions depends on the order only where the later position is compared with the earlier. -/
theorem stableSort_congr_lt {n : Nat} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- "Greater first": the comparison of the sort. -/
def gtB {n : Nat} (key : Fin n → EReal) (a b : Fin n) : Bool := decide (key b < key a)

/-- The same with the position as the tie break. -/
def gtL {n : Nat} (key : Fin n → EReal) (a b : Fin n) : Bool :=
  decide (key b < key a) || (decide (key a = key b) && decide (a < b))

/-- By key, then by position, is a strict total order. -/
theorem gtL_total {n : Nat} (key : Fin n → EReal) : StrictTotalBefore (gtL key) :=
  StrictTotalBefore.of_key_then_position (fun a b : EReal => decide (b < a)) key
    (fun a => by simp) (fun a b c hab hbc => by
      rw [decide_eq_true_eq] at *; exact lt_trans hbc hab)
    (fun a b => by
      rcases lt_trichotomy a b with h | h | h
      · exact Or.inr (Or.inr (decide_eq_true h))
      · exact Or.inr (Or.inl h)
      · exact Or.inl (decide_eq_true h))

/-- The stable sort by key is the sort by key, then by position. -/
theorem sortedFrom_gtB {n : Nat} (key : Fin n → EReal) : sortedFrom (gtB key) = sortedFrom (gtL key) := by
  have e : sortPositions n (gtB key) = sortPositions n (gtL key) := by
    refine stableSort_congr_lt _ _ _ (List.pairwise_lt_finRange n) fun a b hab => ?_
    have : ¬ b < a := not_lt.mpr hab.le
    simp [gtB, gtL, this]
  funext k
  unfold sortedFrom
  rw [List.get_of_eq e]
  rfl

/-- The chosen positions after sixteen rounds are the first sixteen of the stable descending sort of the 127 weights. -/
theorem chosen_sort (w : Fin 128 → EReal) (hw : ∀ n : Fin 128, n.val < 127 → 0 ≤ w n) (hp : w 127 = ((-1 : ℝ) : EReal))
    (n : Fin 128) : chosen w 16 n = true ↔
      ∃ i : Fin 16, (sortedFrom (gtB fun m : Fin 127 => w (m.castLE (by omega))) (i.castLE (by omega))).val = n.val := by
  have hlt : ∀ i : Fin 16, (pick w i.val).val < 127 := fun i => pick_lt w hw hp _ (by omega)
  have hun : ∀ (i : Nat) (p : Fin 128), (∀ j < i, pick w j ≠ p) → chosen w i p = false := fun i p h => by
    by_contra hc
    rw [Bool.not_eq_false, chosen_iff] at hc
    obtain ⟨j, hj, e⟩ := hc
    exact h j hj e
  have hne : ∀ i j : Nat, i < j → j < 127 → pick w i ≠ pick w j := fun i j hij hj e => by
    have h := pick_unchosen w hw j hj
    rw [(chosen_iff w j _).mpr ⟨i, hij, e⟩] at h
    exact absurd h (by decide)
  have hB : ∀ (i : Nat) (hi : i < 127) (hi' : (pick w i).val < 127) (p : Fin 127),
      (∀ j < i, pick w j ≠ p.castLE (by omega)) →
      gtL (fun m : Fin 127 => w (m.castLE (by omega))) p ⟨(pick w i).val, hi'⟩ = false := fun i hi hi' p h => by
    obtain ⟨h1, h2⟩ := pick_best w hw i hi (p.castLE (by omega)) (hun i _ h)
    unfold gtL
    rw [Bool.or_eq_false_iff, Bool.and_eq_false_iff, decide_eq_false_iff_not, decide_eq_false_iff_not, decide_eq_false_iff_not]
    refine ⟨not_lt.mpr h1, ?_⟩
    by_cases e : w (p.castLE (by omega)) = w (pick w i)
    · exact Or.inr (not_lt.mpr (h2 e))
    · exact Or.inl e
  have key := fun i => (gtL_total fun m : Fin 127 => w (m.castLE (by omega))).sortedFrom_eq_of_prefix (k := 16) (by omega)
    (fun i => ⟨(pick w i.val).val, hlt i⟩)
    (fun a b e => by
      have e' : pick w a.val = pick w b.val := Fin.ext (Fin.mk.inj e)
      rcases lt_trichotomy a.val b.val with h | h | h
      · exact absurd e' (hne _ _ h (by omega))
      · exact Fin.ext h
      · exact absurd e'.symm (hne _ _ h (by omega)))
    (fun a b hab => hB a.val (by omega) (hlt a) ⟨(pick w b.val).val, hlt b⟩ fun j hj =>
      hne j b.val (lt_trans hj hab) (by omega))
    (fun a p hpn => hB a.val (by omega) (hlt a) p fun j hj e => hpn ⟨j, by omega⟩ (Fin.ext (show (pick w j).val = p.val from congrArg Fin.val e)))
    i
  rw [chosen_iff, sortedFrom_gtB]
  constructor
  · rintro ⟨i, hi, e⟩
    exact ⟨⟨i, hi⟩, by rw [key ⟨i, hi⟩]; exact congrArg Fin.val e⟩
  · rintro ⟨i, e⟩
    rw [key i] at e
    exact ⟨i.val, i.isLt, Fin.ext e⟩

end Cert.Proof
-- ==== Proof.Cmp.lean ====
/- The values the compressed-attention call stores: the softmax of the visible block scores, its output, and the mask of
   the blocks chosen by sixteen rounds of "largest weight, lowest position". -/
module

public import proofs.«01_k».proof.Proof.Spec
public import proofs.«01_k».proof.Proof.Swin
public import proofs.«01_k».proof.Proof.Select
public import proofs.«01_k».proof.Proof.Gen.KernelIdeal
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Proof

/-- The weights with the blocks already chosen set to -2. -/
def candF (w : FVec Ideal S2048x128 .f32) (s : IVec S2048x128 1) : FVec Ideal S2048x128 .f32 :=
  select s (broadcast S2048x128 (Scalar.ofBits .f32 0xC0000000#32 : Ideal .f32)) w

/-- Where those weights reach the row's largest. -/
def candV (w : FVec Ideal S2048x128 .f32) (s : IVec S2048x128 1) : IVec S2048x128 1 :=
  cmpf .oeq (candF w s) (broadcastTo S2048x128 (shapeCast S2048x1
    (multiReduction .maximumf [1] S2048 (candF w s) 0xFF800000#32 reduces_S2048x128_S2048 (.inl rfl) rfl)
    shapeCasts_S2048_S2048x1) broadcasts_S2048x1_S2048x128)

/-- The positions where they do, 128 elsewhere. -/
def candI (w : FVec Ideal S2048x128 .f32) (s : IVec S2048x128 1) : IVec S2048x128 32 :=
  select (candV w s) (iota .tc S2048x128 32 [1] iota_S2048x128_d1_w32) (broadcast S2048x128 128#32)

/-- One round: the lowest such position of each row is chosen as well. -/
def stepV (w : FVec Ideal S2048x128 .f32) (s : IVec S2048x128 1) : IVec S2048x128 1 :=
  ori s (cmpi .eq (iota .tc S2048x128 32 [1] iota_S2048x128_d1_w32) (broadcastTo S2048x128 (shapeCast S2048x1
    (multiReductionI .minsi [1] S2048 (candI w s) 2147483647#32 reduces_S2048x128_S2048 rfl)
    shapeCasts_S2048_S2048x1) broadcasts_S2048x1_S2048x128))

section
variable (w : FVec Ideal S2048x128 .f32) (s : IVec S2048x128 1) (v39 : FVec Ideal S6144x128 .f32)

abbrev io : IVec S2048x128 32 := iota .tc S2048x128 32 [1] iota_S2048x128_d1_w32

theorem pay6_eq : k2_pay6 v39 = stepV (k2_pay5 v39) (broadcast S2048x128 0#1) := rfl
theorem pay7_eq : k2_pay7 v39 = candV (k2_pay5 v39) (k2_pay6 v39) := rfl
theorem pay9_eq : k2_pay9 io w s (candV w s) k2_pay8 = stepV w (stepV w (stepV w (stepV w s))) := rfl
theorem pay11_eq : k2_pay11 io w s k2_pay10 = stepV w (stepV w (stepV w s)) := rfl
theorem pay12_eq : k2_pay12 io w s k2_pay10 = candI w (k2_pay11 io w s k2_pay10) := rfl
theorem pay13_eq : k2_pay13 io w s (candI w s) = stepV w (stepV w (stepV w (stepV w s))) := rfl
theorem pay14_eq (c) : k2_pay14 io w s c = candF w (k2_pay13 io w s c) := rfl
theorem pay15_eq : k2_pay15 io w s (candF w s) = stepV w (stepV w (stepV w s)) := rfl
theorem pay16_eq : k2_pay16 io w s (candF w s) = candI w (k2_pay15 io w s (candF w s)) := rfl
end

/-! ## One round, row by row -/

/-- The least of words, where one is reached and no other is below it. -/
theorem fold_minsi {n : Nat} (g : Fin n → BitVec 32) (b c : BitVec 32) (hb : c.toInt ≤ b.toInt)
    (hg : ∀ x, c.toInt ≤ (g x).toInt) (p : Fin n) (hp : g p = c) : Finset.univ.fold IntOp.minsi b g = c := by
  classical
  have hmin : ∀ x y : BitVec 32, IntOp.minsi x y = if x.toInt < y.toInt then x else y := fun x y => by
    unfold IntOp.minsi; simp only [BitVec.slt_iff_toInt_lt]
  have key : ∀ S : Finset (Fin n), c.toInt ≤ (S.fold IntOp.minsi b g).toInt ∧ (p ∈ S → S.fold IntOp.minsi b g = c) := by
    intro S
    induction S using Finset.induction_on with
    | empty => exact ⟨by rw [Finset.fold_empty]; exact hb, fun h => absurd h (Finset.notMem_empty _)⟩
    | insert a S ha ih =>
      rw [Finset.fold_insert ha, hmin]
      constructor
      · split
        · exact hg a
        · exact ih.1
      · intro h
        rcases Finset.mem_insert.mp h with rfl | h
        · rw [hp]
          split
          · rfl
          · rename_i hlt
            exact BitVec.eq_of_toInt_eq (le_antisymm (not_lt.mp hlt) ih.1)
        · rw [ih.2 h, if_neg (not_lt.mpr (hg a))]
  exact (key Finset.univ).2 (Finset.mem_univ p)

open Classical in
/-- The lowest position of the largest entry, found by a minimum of position words, is the first such position. -/
theorem first_word (f : Fin 128 → EReal) (n : Fin 128) :
    IntOp.cmpi .eq (BitVec.ofNat 32 n.val) (Finset.univ.fold IntOp.minsi 2147483647#32
      fun x : Fin 128 => if f x = rowMax f then BitVec.ofNat 32 x.val else 128#32) = BitVec.ofBool (decide (IsFirst f n)) := by
  obtain ⟨p, hp⟩ := exists_isFirst f
  have hi : ∀ x : Fin 128, (BitVec.ofNat 32 x.val).toInt = x.val := fun x => ofNat_toInt (by omega)
  have hb : (2147483647#32).toInt = 2147483647 := by decide
  have hc : (128#32).toInt = 128 := by decide
  rw [fold_minsi _ _ (BitVec.ofNat 32 p.val) (by rw [hi, hb]; have := p.isLt; omega) (fun x => by
    rw [hi]
    split
    · rename_i h; rw [hi]; exact Int.ofNat_le.mpr (hp.2 x h)
    · rw [hc]; have := p.isLt; omega) p (if_pos hp.1), eq_word (by omega) (by omega)]
  congr 1
  rw [decide_eq_decide]
  exact ⟨fun h => (Fin.ext h : n = p) ▸ hp, fun h => congrArg Fin.val (h.unique hp)⟩

/-- A position that reaches the row's largest remaining weight, or 128. -/
theorem candI_apply (w : FVec Ideal S2048x128 .f32) (s : IVec S2048x128 1) (σ : Fin 128 → Bool) (t : Fin 2048)
    (hs : ∀ n, s (ix2 t n) = BitVec.ofBool (σ n)) (n : Fin 128) :
    candI w s (ix2 t n) = if candR (fun n => w (ix2 t n)) σ n = rowMax (candR (fun n => w (ix2 t n)) σ)
      then BitVec.ofNat 32 n.val else 128#32 := by
  pointwise [candI, candV, candF]
  simp only [hs, select_ofBool, bits_neg_two, bits_ninf]
  rfl

/-- One round at a row. -/
theorem stepV_apply (w : FVec Ideal S2048x128 .f32) (s : IVec S2048x128 1) (σ : Fin 128 → Bool) (t : Fin 2048)
    (hs : ∀ n, s (ix2 t n) = BitVec.ofBool (σ n)) (n : Fin 128) :
    stepV w s (ix2 t n) = BitVec.ofBool (stepR (fun n => w (ix2 t n)) σ n) := by
  pointwise [stepV]
  simp only [candI_apply w s σ t hs, hs]
  rw [first_word, ori_ofBool]
  rfl

/-- The chosen set after all rounds but the last: the payloads composed. -/
theorem rounds_apply (w : FVec Ideal S2048x128 .f32) (k : Nat) (t : Fin 2048) (n : Fin 128) :
    (stepV w)^[k] (broadcast S2048x128 0#1) (ix2 t n) = BitVec.ofBool (chosen (fun n => w (ix2 t n)) k n) := by
  induction k generalizing n with
  | zero => rfl
  | succ k ih =>
    rw [Function.iterate_succ_apply']
    exact stepV_apply w _ _ t ih n

/-! ## The block scores -/

/-- The scaled score of one query against block `n`, where the block is visible; the masked value elsewhere. -/
def cmpScore (q : Fin 64 → EReal) (K : Fin 128 → Fin 64 → EReal) (t : Nat) (n : Fin 128) : EReal :=
  if (decide (n.val * 16 ≤ t) && decide (n.val < 127)) = true then (∑ d, q d * K n d) * ((8⁻¹ : ℝ) : EReal) else ⊥

/-- The row number of a flattened (head, token) row, computed in words. -/
theorem row_word (x : Fin 3) (t : Fin 2048) :
    Scalar.select
      (IntOp.andi
        (IntOp.xori
          (IntOp.cmpi CmpIPredicate.slt
            (IntOp.remsi ArithUnit.vector (BitVec.ofNat 32 (x.val * 2048 + t.val))
              (Scalar.select (Scalar.cmpi CmpIPredicate.eq 2048#32 0#32) 1#32 2048#32))
            0#32)
          (Scalar.cmpi CmpIPredicate.slt (Scalar.select (Scalar.cmpi CmpIPredicate.eq 2048#32 0#32) 1#32 2048#32) 0#32))
        (IntOp.cmpi CmpIPredicate.ne
          (IntOp.remsi ArithUnit.vector (BitVec.ofNat 32 (x.val * 2048 + t.val))
            (Scalar.select (Scalar.cmpi CmpIPredicate.eq 2048#32 0#32) 1#32 2048#32))
          0#32))
      (IntOp.addi
        (IntOp.remsi ArithUnit.vector (BitVec.ofNat 32 (x.val * 2048 + t.val))
          (Scalar.select (Scalar.cmpi CmpIPredicate.eq 2048#32 0#32) 1#32 2048#32))
        (Scalar.select (Scalar.cmpi CmpIPredicate.eq 2048#32 0#32) 1#32 2048#32))
      (IntOp.remsi ArithUnit.vector (BitVec.ofNat 32 (x.val * 2048 + t.val))
        (Scalar.select (Scalar.cmpi CmpIPredicate.eq 2048#32 0#32) 1#32 2048#32))
    = BitVec.ofNat 32 t.val := by
  revert x t
  decide +kernel

theorem muli_word (a b : Nat) : IntOp.muli (BitVec.ofNat 32 a) (BitVec.ofNat 32 b) = BitVec.ofNat 32 (a * b) := by
  unfold IntOp.muli; exact (BitVec.ofNat_mul ..).symm

theorem slt_word {a b : Nat} (ha : a < 2 ^ 31) (hb : b < 2 ^ 31) :
    IntOp.cmpi .slt (BitVec.ofNat 32 a) (BitVec.ofNat 32 b) = BitVec.ofBool (decide (a < b)) := by
  unfold IntOp.cmpi
  simp only [BitVec.slt, ofNat_toInt ha, ofNat_toInt hb, Int.ofNat_lt]

theorem div_row (x : Fin 3) (t : Fin 2048) (h) : (⟨(x.val * 2048 + t.val) / 2048, h⟩ : Fin 3) = x := by
  apply Fin.ext; show (x.val * 2048 + t.val) / 2048 = x.val; omega

theorem mod_row (x : Fin 3) (t : Fin 2048) (h) : (⟨(x.val * 2048 + t.val) % 2048, h⟩ : Fin 2048) = t := by
  apply Fin.ext; show (x.val * 2048 + t.val) % 2048 = t.val; omega

/-- The compressed branch's output. -/
theorem pay4_apply (x0 : Vec Ideal S3x1x2048x64 .f32) (x1 : Vec Ideal S1x128x64 .f32) (x2 : Vec Ideal S1x128x64 .f32)
    (r : Fin 3) (z : Fin 1) (t : Fin 2048) (d : Fin 64) :
    k2_pay4 (F := Ideal) (k2_pay2 x0 x1) x2 (ix4 r z t d)
      = att (cmpScore (fun e => x0 (ix4 r 0 t e)) (fun n e => x1 (ix3 0 n e)) t.val) (fun n => x2 (ix3 0 n d)) := by
  pointwise [k2_pay4, k2_pay3, k2_pay2]
  simp (disch := omega) only [row_word, div_row, mod_row, muli_word, sle_word, slt_word, andi_ofBool, select_ofBool,
    mask_bot, bits_eighth, bits_ninf]
  rfl

/-- The weights the blocks are chosen by: the visible probabilities summed over the three heads, -1 on the padding. -/
theorem pay5_apply (x0 : Vec Ideal S3x1x2048x64 .f32) (x1 : Vec Ideal S1x128x64 .f32) (t : Fin 2048) (n : Fin 128) :
    k2_pay5 (F := Ideal) (k2_pay2 x0 x1) (ix2 t n)
      = if n.val < 127 then
          ∑ r : Fin 3, soft (cmpScore (fun e => x0 (ix4 r 0 t e)) (fun n e => x1 (ix3 0 n e)) t.val) n
        else ((-1 : ℝ) : EReal) := by
  pointwise [k2_pay5, k2_pay3, k2_pay2]
  simp (disch := omega) only [row_word, div_row, mod_row, muli_word, sle_word, slt_word, andi_ofBool, select_ofBool,
    mask_bot, bits_eighth, bits_ninf, bits_neg_one, decide_eq_true_eq]
  rfl

/-- How many of the chosen blocks cover the 16-token cell `c`. -/
def coverSum (σ : Fin 128 → Bool) (c : Fin 128) : EReal :=
  ∑ n : Fin 128, (if σ n = true then (1 : EReal) else 0)
    * (if (decide (c.val = n.val) || decide (c.val = n.val + 1)) = true then (1 : EReal) else 0)

theorem ind_bool (b : Bool) : (FloatOps.sitofp .f32 (BitVec.setWidth 32 (BitVec.ofBool b)) : Ideal .f32)
    = if b = true then (1 : EReal) else 0 := by
  cases b
  · show (((0 : ℤ) : ℝ) : EReal) = 0; simp
  · show (((1 : ℤ) : ℝ) : EReal) = 1; simp

/-- The cover that the call stores, from the choice before its last round. -/
theorem pay1_apply (w : FVec Ideal S2048x128 .f32) (s : IVec S2048x128 1) (σ : Fin 128 → Bool) (t : Fin 2048)
    (hs : ∀ n, s (ix2 t n) = BitVec.ofBool (σ n)) (z : Fin 1) (c : Fin 128) :
    k2_pay1 (F := Ideal) io s (candI w s) (ix3 z t c) = coverSum (stepR (fun n => w (ix2 t n)) σ) c := by
  pointwise [k2_pay1]
  simp (disch := omega) only [candI_apply w s σ t hs, hs, first_word, addi_word, eq_word, ori_ofBool, ind_bool]
  rfl

/-- The chosen rows after each group of rounds. -/
theorem rounds5 (v39 : FVec Ideal S6144x128 .f32) :
    k2_pay9 io (k2_pay5 v39) (k2_pay6 v39) (k2_pay7 v39) k2_pay8 = (stepV (k2_pay5 v39))^[5] (broadcast S2048x128 0#1) := by
  rw [pay7_eq, pay9_eq, pay6_eq]; rfl

theorem iterate_fifteen {α : Type} (f : α → α) (b : α) :
    f (f (f (f (f (f (f (f (f (f (f^[5] b)))))))))) = f^[15] b := rfl

/-- The cover that the call stores, after sixteen rounds. -/
theorem rounds_last (w : FVec Ideal S2048x128 .f32) (s5 : IVec S2048x128 1)
    (hs : s5 = (stepV w)^[5] (broadcast S2048x128 0#1)) (z : Fin 1) (t : Fin 2048) (c : Fin 128) :
    k2_pay1 (F := Ideal) io
      (k2_pay15 io w (k2_pay13 io w (k2_pay11 io w s5 k2_pay10) (k2_pay12 io w s5 k2_pay10))
        (k2_pay14 io w (k2_pay11 io w s5 k2_pay10) (k2_pay12 io w s5 k2_pay10)))
      (k2_pay16 io w (k2_pay13 io w (k2_pay11 io w s5 k2_pay10) (k2_pay12 io w s5 k2_pay10))
        (k2_pay14 io w (k2_pay11 io w s5 k2_pay10) (k2_pay12 io w s5 k2_pay10))) (ix3 z t c)
      = coverSum (chosen (fun n => w (ix2 t n)) 16) c := by
  rw [pay12_eq, pay14_eq, pay16_eq, pay13_eq, pay15_eq, pay11_eq, hs, iterate_fifteen (stepV w)]
  exact pay1_apply w _ _ t (rounds_apply w 15 t) z c

end Cert.Proof
-- ==== Proof.Dense.lean ====
/- The values the projection call and the block-summary call store. -/
module

public import proofs.«01_k».proof.Proof.Spec
public import proofs.«01_k».proof.Proof.Cmp
public import proofs.«01_k».proof.Proof.Gen.KernelIdeal
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Proof

/-- The gate function. -/
def gateFn (x : EReal) : EReal := Ideal.div 1 (1 + Ideal.exp (-x))

/-- The error-function form of the activation. -/
def gelu (h : EReal) : EReal := ((2⁻¹ : ℝ) : EReal) * h * (1 + Ideal.erf (h * (((Real.sqrt 2)⁻¹ : ℝ) : EReal)))

/-- The two-layer summary of one flattened block. -/
def mlp (f : Fin 2048 → EReal) (w1 : Fin 2048 → Fin 64 → EReal) (b1 : Fin 64 → EReal) (w2 : Fin 64 → Fin 64 → EReal)
    (b2 : Fin 64 → EReal) (o : Fin 64) : EReal :=
  (∑ h : Fin 64, gelu ((∑ k : Fin 2048, f k * w1 k h) + b1 h) * w2 h o) + b2 o

theorem sqrt_named : (Named.named κ "inv_sqrt2" 0x3F3504F3#32 : Ideal .f32) = (((Real.sqrt 2)⁻¹ : ℝ) : EReal) := rfl

/-- What the projections' call stores at an index. -/
theorem k0_apply (x0 : Vec Ideal S256x768 .f32) (x1 : Vec Ideal S768x1664 .f32) (x2 : Vec Ideal S1x1664 .f32)
    (t : Fin 256) (c : Fin 1664) :
    k0_pay1 (F := Ideal) x0 x1 x2 (ix2 t c)
      = if c.val < 36 then gateFn ((∑ k : Fin 768, x0 (ix2 t k) * x1 (ix2 k c)) + x2 (ix2 0 c))
        else (∑ k : Fin 768, x0 (ix2 t k) * x1 (ix2 k c)) + x2 (ix2 0 c) := by
  pointwise [k0_pay1]
  simp (disch := omega) only [slt_word, select_ofBool, decide_eq_true_eq]
  rfl

/-- The key summary that the summary call stores. -/
theorem k1_k_apply (x0 : Vec Ideal S1x2048 .f32) (x1 : Vec Ideal S512x2048 .f32) (x2 : Vec Ideal S2048x64 .f32)
    (x3 : Vec Ideal S1x64 .f32) (x4 : Vec Ideal S64x64 .f32) (x5 : Vec Ideal S1x64 .f32) (n : Fin 512) (o : Fin 64) :
    k1_pay3 (F := Ideal) x0 x1 x2 x3 x4 x5 (ix2 n o)
      = mlp (fun k => x1 (ix2 n k) + x0 (ix2 0 k)) (fun k h => x2 (ix2 k h)) (fun h => x3 (ix2 0 h))
          (fun h o => x4 (ix2 h o)) (fun o => x5 (ix2 0 o)) o := by
  pointwise [k1_pay3, k1_pay2]
  simp only [bits_half, sqrt_named]
  rfl

/-- The value summary that the summary call stores. -/
theorem k1_v_apply (x0 : Vec Ideal S1x2048 .f32) (x1 : Vec Ideal S512x2048 .f32) (x2 : Vec Ideal S2048x64 .f32)
    (x3 : Vec Ideal S1x64 .f32) (x4 : Vec Ideal S64x64 .f32) (x5 : Vec Ideal S1x64 .f32) (n : Fin 512) (o : Fin 64) :
    k1_pay1 (F := Ideal) (k1_pay2 x0) (k1_pay4 x1) x2 (k1_pay5 x3) x4 x5 (ix2 n o)
      = mlp (fun k => x1 (ix2 n k) + x0 (ix2 0 k)) (fun k h => x2 (ix2 k h)) (fun h => x3 (ix2 0 h))
          (fun h o => x4 (ix2 h o)) (fun o => x5 (ix2 0 o)) o := by
  pointwise [k1_pay1, k1_pay2, k1_pay4, k1_pay5]
  simp only [bits_half, sqrt_named]
  rfl

end Cert.Proof
-- ==== Proof.Regions.lean ====
/- What the calls leave in their result arrays, as functions of the arrays they read. -/
module

public import proofs.«01_k».proof.Proof.Swin
public import proofs.«01_k».proof.Proof.Cmp
public import proofs.«01_k».proof.Proof.Dense
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

/-- The projections of every token with the gates' columns through the gate function. -/
def projArr (A : FVec Ideal S2048x768 .f32) (B : FVec Ideal S768x1664 .f32) (C : FVec Ideal S1x1664 .f32)
    (j : S2048x1664.Idx) : EReal :=
  if (j 1).val < 36 then gateFn ((∑ k : Fin 768, A (ix2 (j 0) k) * B (ix2 k (j 1))) + C (ix2 0 (j 1)))
  else (∑ k : Fin 768, A (ix2 (j 0) k) * B (ix2 k (j 1))) + C (ix2 0 (j 1))

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![t.val, 0] := (by decide +kernel : ∀ t : Fin grid0.N, _)

/-- The array that the projections' call leaves. -/
theorem region0 (c : Dev nD) : (dat0 V c).arrAt 3 cfg0.N = projArr (V c main_v0) (V c main_v2) (V c main_v4) := by
  refine (dat0 V c).arrAt_eq_of_covers 3 _ (by decide +kernel) fun t _ y => ?_
  blk_simp
  rw [after0_3]
  frame_out
  idx_vars y
  refine (k0_apply _ _ _ y0 y1).trans ?_
  unfold projArr
  blk_point [iblk0, idx0 t]

end Cert.Proof
-- ==== Proof.Model.lean ====
/- The arguments together, and the values both programs compute from them before any attention. -/
module

public import proofs.«01_k».proof.Proof.Dense
public import proofs.«01_k».proof.Proof.Swin
public import proofs.«01_k».proof.Proof.Select
public import proofs.«01_k».proof.Proof.Gen.KernelIdeal

@[expose] public section

noncomputable section

open Idealize.ShloMosaic Idealize.ShloMosaic.TcCoe Idealize.SL.Sem
open Cert.KernelIdeal

namespace Cert.Proof

/-- The nineteen argument arrays. -/
structure Args where
  x0 : FVec Ideal S1x2048x768 .f32
  x1 : FVec Ideal S1x12x2048x64 .f32
  x2 : FVec Ideal S768x36 .f32
  x3 : FVec Ideal S36 .f32
  x4 : FVec Ideal S768x256 .f32
  x5 : FVec Ideal S768x256 .f32
  x6 : FVec Ideal S768x256 .f32
  x7 : FVec Ideal S768x256 .f32
  x8 : FVec Ideal S768x256 .f32
  x9 : FVec Ideal S768x256 .f32
  x10 : FVec Ideal S32x64 .f32
  x11 : FVec Ideal S2048x64 .f32
  x12 : FVec Ideal S64 .f32
  x13 : FVec Ideal S64x64 .f32
  x14 : FVec Ideal S64 .f32
  x15 : FVec Ideal S2048x64 .f32
  x16 : FVec Ideal S64 .f32
  x17 : FVec Ideal S64x64 .f32
  x18 : FVec Ideal S64 .f32

/-- A token's row times a weight matrix of 256 columns. -/
def lin (x : FVec Ideal S1x2048x768 .f32) (w : FVec Ideal S768x256 .f32) (t : Fin 2048) (c : Fin 256) : EReal :=
  ∑ e : Fin 768, x (ix3 0 t e) * w (ix2 e c)

/-- The column of the projections that holds coordinate `d` of key head `kv`. -/
def col (kv : Fin 4) (d : Fin 64) : Fin 256 := ⟨kv.val * 64 + d.val, by omega⟩

/-- The query head with number `r` among those of key head `kv`. -/
def head (r : Fin 3) (kv : Fin 4) : Fin 12 := ⟨r.val * 4 + kv.val, by omega⟩

/-- Gate `g` of head `h` at token `t`. -/
def gateAt (A : Args) (h : Fin 12) (t : Fin 2048) (g : Fin 3) : EReal :=
  gateFn ((∑ e : Fin 768, A.x0 (ix3 0 t e) * A.x2 (ix2 e ⟨h.val * 3 + g.val, by omega⟩)) + A.x3 (ix1 ⟨h.val * 3 + g.val, by omega⟩))

/-- Block `n` of 32 tokens of a projection, its positions added, laid out as one row. -/
def flat (A : Args) (w : FVec Ideal S768x256 .f32) (n : Fin 127) (kv : Fin 4) (k : Fin 2048) : EReal :=
  lin A.x0 w ⟨n.val * 16 + k.val / 64, by omega⟩ (col kv ⟨k.val % 64, by omega⟩)
    + A.x10 (ix2 ⟨k.val / 64, by omega⟩ ⟨k.val % 64, by omega⟩)

/-- The summary key of block `n`. -/
def keyC (A : Args) (kv : Fin 4) (n : Fin 127) (o : Fin 64) : EReal :=
  mlp (flat A A.x4 n kv) (fun k h => A.x11 (ix2 k h)) (fun h => A.x12 (ix1 h)) (fun h o => A.x13 (ix2 h o))
    (fun o => A.x14 (ix1 o)) o

/-- The summary value of block `n`. -/
def valC (A : Args) (kv : Fin 4) (n : Fin 127) (o : Fin 64) : EReal :=
  mlp (flat A A.x5 n kv) (fun k h => A.x15 (ix2 k h)) (fun h => A.x16 (ix1 h)) (fun h o => A.x17 (ix2 h o))
    (fun o => A.x18 (ix1 o)) o

/-- The query of head `r`, `kv` at a token. -/
def qry (A : Args) (r : Fin 3) (kv : Fin 4) (t : Fin 2048) (d : Fin 64) : EReal := A.x1 (ix4 0 (head r kv) t d)

/-- The compressed branch's score of block `n`. -/
def cmpS (A : Args) (r : Fin 3) (kv : Fin 4) (t : Fin 2048) (n : Fin 127) : EReal :=
  if n.val * 16 ≤ t.val then (∑ d, qry A r kv t d * keyC A kv n d) * ((8⁻¹ : ℝ) : EReal) else ⊥

/-- A block's weight: its probabilities summed over the query heads that share the key head. -/
def pgrp (A : Args) (kv : Fin 4) (t : Fin 2048) (n : Fin 127) : EReal := ∑ r : Fin 3, soft (cmpS A r kv t) n

/-- Block `n` is one of the sixteen of largest weight. -/
def picked (A : Args) (kv : Fin 4) (t : Fin 2048) (n : Fin 127) : Prop :=
  ∃ i : Fin 16, sortedFrom (gtB (pgrp A kv t)) (i.castLE (by decide)) = n

/-- Token `j` lies in a chosen block. -/
def covered (A : Args) (kv : Fin 4) (t : Fin 2048) (j : Nat) : Prop :=
  ∃ n : Fin 127, picked A kv t n ∧ n.val * 16 ≤ j ∧ j < n.val * 16 + 32

open Classical in
/-- The selected branch's score of a token. -/
def selS (A : Args) (r : Fin 3) (kv : Fin 4) (t : Fin 2048) (j : Fin 2048) : EReal :=
  if covered A kv t j.val ∧ j.val ≤ t.val then
    (∑ d, qry A r kv t d * lin A.x0 A.x6 j (col kv d)) * ((8⁻¹ : ℝ) : EReal) else ⊥

/-- The window branch's score of a token. -/
def winS (A : Args) (r : Fin 3) (kv : Fin 4) (t : Fin 2048) (j : Fin 2048) : EReal :=
  if j.val ≤ t.val ∧ t.val < j.val + 512 then
    (∑ d, qry A r kv t d * lin A.x0 A.x8 j (col kv d)) * ((8⁻¹ : ℝ) : EReal) else ⊥

/-- The result: the three branches' outputs, each times its gate. -/
def result (A : Args) (r : Fin 3) (kv : Fin 4) (t : Fin 2048) (d : Fin 64) : EReal :=
  gateAt A (head r kv) t 0 * att (cmpS A r kv t) (fun n => valC A kv n d)
    + gateAt A (head r kv) t 1 * att (selS A r kv t) (fun j => lin A.x0 A.x7 j (col kv d))
    + gateAt A (head r kv) t 2 * att (winS A r kv t) (fun j => lin A.x0 A.x9 j (col kv d))

/-- The weights of 128 blocks, the last of which no query sees. -/
def wgt (A : Args) (K : Fin 128 → Fin 64 → EReal) (kv : Fin 4) (t : Fin 2048) (n : Fin 128) : EReal :=
  if n.val < 127 then ∑ r : Fin 3, soft (cmpScore (qry A r kv t) K t.val) n else ((-1 : ℝ) : EReal)

/-- The result of a call that reads `n` tokens for the selected branch and `w` tokens from `off` for the window. -/
def narrow (A : Args) (K X : Fin 128 → Fin 64 → EReal) (n w off : Nat) (hn : n ≤ 2048) (hw : off + w ≤ 2048)
    (r : Fin 3) (kv : Fin 4) (t : Fin 2048) (d : Fin 64) : EReal :=
  gateAt A (head r kv) t 0 * att (cmpScore (qry A r kv t) K t.val) (fun n => X n d)
    + gateAt A (head r kv) t 1 * att (selScore (n := n) (coverSum (chosen (wgt A K kv t) 16)) (qry A r kv t)
          (fun i e => lin A.x0 A.x6 ⟨i.val, by omega⟩ (col kv e)) t.val) (fun i => lin A.x0 A.x7 ⟨i.val, by omega⟩ (col kv d))
    + gateAt A (head r kv) t 2 * att (winScore (n := w) (qry A r kv t)
          (fun i e => lin A.x0 A.x8 ⟨off + i.val, by omega⟩ (col kv e)) t.val off)
          (fun i => lin A.x0 A.x9 ⟨off + i.val, by omega⟩ (col kv d))

end Cert.Proof
-- ==== Proof.Host0.lean ====
/- The arrays that the host prepares for the projections' call, and what that call leaves. -/
module

public import proofs.«01_k».proof.Proof.Regions
public import proofs.«01_k».proof.Proof.Model
public import Idealize.ShloMosaic.Lib.Claim

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (m : (ℓ : Loc nD τ sig) → Buf (Elt Ideal) ℓ) (ρ : Dev nD → PrngReg) (c : Dev nD)

/-- The arguments as they lie in memory at the start. -/
def argsOf : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)

theorem w1_v0 : W1 m ρ c main_v0 = shapeCast S2048x768 (argsOf m c).x0 shapeCasts_S1x2048x768_S2048x768 := by
  unfold W1
  after_results
  rfl

/-- The tokens that the projections' call reads. -/
theorem w5_v0 (t : Fin 2048) (e : Fin 768) : W5 m ρ c main_v0 (ix2 t e) = (argsOf m c).x0 (ix3 0 t e) := by
  rw [W5_of m ρ c main_v0 (by decide), W4_of m ρ c main_v0 (by decide), W3_of m ρ c main_v0 (by decide),
    W2_of m ρ c main_v0 (by decide), w1_v0]
  pointwise

theorem w1_v1 : W1 m ρ c main_v1 = concatenate S768x1572 1 [⟨S768x36, (argsOf m c).x2⟩, ⟨S768x256, (argsOf m c).x4⟩,
    ⟨S768x256, (argsOf m c).x5⟩, ⟨S768x256, (argsOf m c).x6⟩, ⟨S768x256, (argsOf m c).x7⟩, ⟨S768x256, (argsOf m c).x8⟩,
    ⟨S768x256, (argsOf m c).x9⟩] concatenates_S768x36_S768x256_S768x256_S768x256_S768x256_S768x256_S768x256_S768x1572_d1 := by
  unfold W1
  after_results
  rfl

theorem w2_v2 : W2 m ρ c main_v2 = pad (α := Ideal .f32) S768x1664 ![0, 0] ![0, 92] ![0, 0] (W1 m ρ c main_v1 : FVec Ideal S768x1572 .f32)
    (sitofp .f32 (constantI S_ 32 0#32) : FVec Ideal S_ .f32) pads_S768x1572_S768x1664_000_0920 h_S_ := by
  unfold W2
  after_results
  rfl

theorem w3_c0 : W3 m ρ c main_c_0 = constantI S_ 32 0#32 := by
  unfold W3
  after_results

theorem w4_v3 : W4 m ρ c main_v3 = pad (α := Ideal .f32) S1664 ![0] ![1628] ![0] (argsOf m c).x3
    (sitofp .f32 (constantI S_ 32 0#32)) pads_S36_S1664_016280 h_S_ := by
  unfold W4
  after_results
  rfl

/-- A row of 36 padded to 1664, at an index. -/
theorem pad36 (x : FVec Ideal S36 .f32) (v : FVec Ideal S_ .f32) (o : Fin 1664) :
    pad S1664 ![0] ![1628] ![0] x v pads_S36_S1664_016280 h_S_ (ix1 o) = if h : o.val < 36 then x (ix1 ⟨o.val, h⟩) else v (Shape.Idx.first h_S_) := by
  pointwise

/-- A matrix of 1572 columns padded to 1664, at an index. -/
theorem pad1572 (x : FVec Ideal S768x1572 .f32) (v : FVec Ideal S_ .f32) (e : Fin 768) (o : Fin 1664) :
    pad S768x1664 ![0, 0] ![0, 92] ![0, 0] x v pads_S768x1572_S768x1664_000_0920 h_S_ (ix2 e o)
      = if h : o.val < 1572 then x (ix2 e ⟨o.val, h⟩) else v (Shape.Idx.first h_S_) := by
  pointwise

theorem zero_word : (sitofp .f32 (constantI S_ 32 0#32) : FVec Ideal S_ .f32) (Shape.Idx.first h_S_) = 0 := by
  show ((((0#32 : BitVec 32).toInt : ℤ) : ℝ) : EReal) = 0
  simp

theorem row1664 (x : FVec Ideal S1664 .f32) (o : Fin 1664) : shapeCast S1x1664 x shapeCasts_S1664_S1x1664 (ix2 0 o) = x (ix1 o) := by
  pointwise

/-- The bias row: the gates' biases, then zeros. -/
theorem w5_v4 (o : Fin 1664) : W5 m ρ c main_v4 (ix2 0 o) =
    if h : o.val < 36 then (argsOf m c).x3 (ix1 ⟨o.val, h⟩) else 0 := by
  have e : W5 m ρ c main_v4 = shapeCast S1x1664 (W4 m ρ c main_v3 : FVec Ideal S1664 .f32) shapeCasts_S1664_S1x1664 := by
    unfold W5
    after_results
    rfl
  rw [e, w4_v3, row1664, pad36, zero_word]

/-- The weights side by side. -/
def wcat : FVec Ideal S768x1572 .f32 := concatenate S768x1572 1 [⟨S768x36, (argsOf m c).x2⟩, ⟨S768x256, (argsOf m c).x4⟩,
    ⟨S768x256, (argsOf m c).x5⟩, ⟨S768x256, (argsOf m c).x6⟩, ⟨S768x256, (argsOf m c).x7⟩, ⟨S768x256, (argsOf m c).x8⟩,
    ⟨S768x256, (argsOf m c).x9⟩] concatenates_S768x36_S768x256_S768x256_S768x256_S768x256_S768x256_S768x256_S768x1572_d1

/-- The projections' weights side by side, with zero columns at the end. -/
theorem w5_v2 (e : Fin 768) (o : Fin 1664) : W5 m ρ c main_v2 (ix2 e o) =
    if h : o.val < 1572 then wcat m c (ix2 e ⟨o.val, h⟩) else 0 := by
  rw [W5_of m ρ c main_v2 (by decide), W4_of m ρ c main_v2 (by decide), W3_of m ρ c main_v2 (by decide), w2_v2, w1_v1,
    pad1572, zero_word]
  rfl

theorem cat_gate (e : Fin 768) (o : Fin 1572) (h : o.val < 36) : wcat m c (ix2 e o) = (argsOf m c).x2 (ix2 e ⟨o.val, h⟩) := by
  unfold wcat
  pointwise
  simp [h]

theorem cat_0 (e : Fin 768) (o : Fin 256) : wcat m c (ix2 e ⟨36 + o.val, by omega⟩) = (argsOf m c).x4 (ix2 e o) := by
  unfold wcat
  pointwise

theorem cat_1 (e : Fin 768) (o : Fin 256) : wcat m c (ix2 e ⟨292 + o.val, by omega⟩) = (argsOf m c).x5 (ix2 e o) := by
  unfold wcat
  pointwise
  iterate 2 rw [dif_neg (by omega)]
  rw [dif_pos (by omega)]
  exact congrArg _ (congrArg (ix2 e) (Fin.ext (by show 292 + o.val - 36 - 256 = o.val; omega)))

theorem cat_2 (e : Fin 768) (o : Fin 256) : wcat m c (ix2 e ⟨548 + o.val, by omega⟩) = (argsOf m c).x6 (ix2 e o) := by
  unfold wcat
  pointwise
  iterate 3 rw [dif_neg (by omega)]
  rw [dif_pos (by omega)]
  exact congrArg _ (congrArg (ix2 e) (Fin.ext (by show 548 + o.val - 36 - 256 - 256 = o.val; omega)))

theorem cat_3 (e : Fin 768) (o : Fin 256) : wcat m c (ix2 e ⟨804 + o.val, by omega⟩) = (argsOf m c).x7 (ix2 e o) := by
  unfold wcat
  pointwise
  iterate 4 rw [dif_neg (by omega)]
  rw [dif_pos (by omega)]
  exact congrArg _ (congrArg (ix2 e) (Fin.ext (by show 804 + o.val - 36 - 256 - 256 - 256 = o.val; omega)))

theorem cat_4 (e : Fin 768) (o : Fin 256) : wcat m c (ix2 e ⟨1060 + o.val, by omega⟩) = (argsOf m c).x8 (ix2 e o) := by
  unfold wcat
  pointwise
  iterate 5 rw [dif_neg (by omega)]
  rw [dif_pos (by omega)]
  exact congrArg _ (congrArg (ix2 e) (Fin.ext (by show 1060 + o.val - 36 - 256 - 256 - 256 - 256 = o.val; omega)))

theorem cat_5 (e : Fin 768) (o : Fin 256) : wcat m c (ix2 e ⟨1316 + o.val, by omega⟩) = (argsOf m c).x9 (ix2 e o) := by
  unfold wcat
  pointwise
  iterate 6 rw [dif_neg (by omega)]
  exact congrArg _ (congrArg (ix2 e) (Fin.ext (by show 1316 + o.val - 36 - 256 - 256 - 256 - 256 - 256 = o.val; omega)))

/-- What the projections' call leaves. -/
theorem w6_v5 : W6 m ρ c main_v5 = projArr (W5 m ρ c main_v0) (W5 m ρ c main_v2) (W5 m ρ c main_v4) :=
  (W6_arr m ρ c 3).trans (region0 (V5 m ρ) c)

theorem w5_v2_pos (e : Fin 768) (o : Fin 1664) (h : o.val < 1572) : W5 m ρ c main_v2 (ix2 e o) = wcat m c (ix2 e ⟨o.val, h⟩) := by
  rw [w5_v2, dif_pos h]

theorem w5_v4_ge (o : Fin 1664) (h : 36 ≤ o.val) : W5 m ρ c main_v4 (ix2 0 o) = (0 : EReal) := by
  rw [w5_v4, dif_neg (by omega)]

/-- The gates that the projections' call leaves. -/
theorem v5_gate (h : Fin 12) (t : Fin 2048) (g : Fin 3) (o : Fin 1664) (ho : o.val = h.val * 3 + g.val) :
    W6 m ρ c main_v5 (ix2 t o) = gateAt (argsOf m c) h t g := by
  obtain ⟨o, ho'⟩ := o
  obtain rfl : o = h.val * 3 + g.val := ho
  rw [w6_v5]
  unfold projArr gateAt
  refine (if_pos (show h.val * 3 + g.val < 36 by omega)).trans ?_
  refine congrArg gateFn (congrArg₂ (· + ·) (Finset.sum_congr rfl fun e _ => ?_) ?_)
  · exact congrArg₂ (· * ·) (w5_v0 m ρ c t e) ((w5_v2_pos m ρ c e _ (show h.val * 3 + g.val < 1572 by omega)).trans (cat_gate m c e _ (show h.val * 3 + g.val < 36 by omega)))
  · exact (w5_v4 m ρ c _).trans (dif_pos (show h.val * 3 + g.val < 36 by omega))

/-- A projection that the projections' call leaves in its columns. -/
theorem v5_lin (w : FVec Ideal S768x256 .f32) (p : Nat) (hp : p < 6)
    (hw : ∀ (e : Fin 768) (o : Fin 256), wcat m c (ix2 e ⟨36 + 256 * p + o.val, by omega⟩) = w (ix2 e o))
    (t : Fin 2048) (o : Fin 256) (o' : Fin 1664) (ho : o'.val = 36 + 256 * p + o.val) :
    W6 m ρ c main_v5 (ix2 t o') = lin (argsOf m c).x0 w t o := by
  obtain ⟨o', ho'⟩ := o'
  obtain rfl : o' = 36 + 256 * p + o.val := ho
  rw [w6_v5]
  unfold projArr lin
  refine (if_neg (show ¬ (36 + 256 * p + o.val < 36) by omega)).trans ?_
  refine Eq.trans (congrArg₂ (· + ·) (Finset.sum_congr rfl fun e _ => ?_) (w5_v4_ge m ρ c ⟨36 + 256 * p + o.val, by omega⟩ (show 36 ≤ 36 + 256 * p + o.val by omega))) (add_zero (M := EReal) _)
  exact congrArg₂ (· * ·) (w5_v0 m ρ c t e) ((w5_v2_pos m ρ c e _ (show 36 + 256 * p + o.val < 1572 by omega)).trans (hw e o))

end Cert.Proof
-- ==== Proof.Host1.lean ====
/- The arrays cut from the projections: gates, keys, values, and the blocks to be summarised. -/
module

public import proofs.«01_k».proof.Proof.Host0
public import Idealize.ShloMosaic.Lib.Claim

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (m : (ℓ : Loc nD τ sig) → Buf (Elt Ideal) ℓ) (ρ : Dev nD → PrngReg) (c : Dev nD)

theorem turn_548 (X : FVec Ideal S2048x1664 .f32) (kv : Fin 4) (t : Fin 2048) (d : Fin 64) :
    transpose S4x2048x64 [1, 0, 2] (shapeCast S2048x4x64 (extractStridedSlice S2048x256 ![0, 548]
    X slices_S2048x1664_S2048x256_0_548) shapeCasts_S2048x256_S2048x4x64)
    transposes_S2048x4x64_S4x2048x64_1_0_2 (ix3 kv t d) = X (ix2 t ⟨548 + (col kv d).val, by omega⟩) := by
  unfold col
  pointwise

theorem turn_804 (X : FVec Ideal S2048x1664 .f32) (kv : Fin 4) (t : Fin 2048) (d : Fin 64) :
    transpose S4x2048x64 [1, 0, 2] (shapeCast S2048x4x64 (extractStridedSlice S2048x256 ![0, 804]
    X slices_S2048x1664_S2048x256_0_804) shapeCasts_S2048x256_S2048x4x64)
    transposes_S2048x4x64_S4x2048x64_1_0_2 (ix3 kv t d) = X (ix2 t ⟨804 + (col kv d).val, by omega⟩) := by
  unfold col
  pointwise

theorem turn_1060 (X : FVec Ideal S2048x1664 .f32) (kv : Fin 4) (t : Fin 2048) (d : Fin 64) :
    transpose S4x2048x64 [1, 0, 2] (shapeCast S2048x4x64 (extractStridedSlice S2048x256 ![0, 1060]
    X slices_S2048x1664_S2048x256_0_1060) shapeCasts_S2048x256_S2048x4x64)
    transposes_S2048x4x64_S4x2048x64_1_0_2 (ix3 kv t d) = X (ix2 t ⟨1060 + (col kv d).val, by omega⟩) := by
  unfold col
  pointwise

theorem turn_1316 (X : FVec Ideal S2048x1664 .f32) (kv : Fin 4) (t : Fin 2048) (d : Fin 64) :
    transpose S4x2048x64 [1, 0, 2] (shapeCast S2048x4x64 (extractStridedSlice S2048x256 ![0, 1316]
    X slices_S2048x1664_S2048x256_0_1316) shapeCasts_S2048x256_S2048x4x64)
    transposes_S2048x4x64_S4x2048x64_1_0_2 (ix3 kv t d) = X (ix2 t ⟨1316 + (col kv d).val, by omega⟩) := by
  unfold col
  pointwise

theorem kslc_eq : W7 m ρ c main_v15 = transpose S4x2048x64 [1, 0, 2] (shapeCast S2048x4x64 (extractStridedSlice S2048x256 ![0, 548]
    (W6 m ρ c main_v5 : FVec Ideal S2048x1664 .f32) slices_S2048x1664_S2048x256_0_548) shapeCasts_S2048x256_S2048x4x64)
    transposes_S2048x4x64_S4x2048x64_1_0_2 := by
  unfold W7
  after_results
  rfl

/-- The selected keys by head. -/
theorem kslc (kv : Fin 4) (t : Fin 2048) (d : Fin 64) :
    W11 m ρ c main_v15 (ix3 kv t d) = lin (argsOf m c).x0 (argsOf m c).x6 t (col kv d) := by
  rw [W11_of m ρ c main_v15 (by decide), W10_of m ρ c main_v15 (by decide), W9_of m ρ c main_v15 (by decide),
    W8_of m ρ c main_v15 (by decide), kslc_eq]
  refine Eq.trans ?_ (v5_lin m ρ c (argsOf m c).x6 2 (by decide) (cat_2 m c) t (col kv d) ⟨548 + (col kv d).val, by omega⟩ rfl)
  generalize (W6 m ρ c main_v5 : FVec Ideal S2048x1664 .f32) = X
  exact turn_548 X kv t d

theorem vslc_eq : W7 m ρ c main_v18 = transpose S4x2048x64 [1, 0, 2] (shapeCast S2048x4x64 (extractStridedSlice S2048x256 ![0, 804]
    (W6 m ρ c main_v5 : FVec Ideal S2048x1664 .f32) slices_S2048x1664_S2048x256_0_804) shapeCasts_S2048x256_S2048x4x64)
    transposes_S2048x4x64_S4x2048x64_1_0_2 := by
  unfold W7
  after_results
  rfl

/-- The selected values by head. -/
theorem vslc (kv : Fin 4) (t : Fin 2048) (d : Fin 64) :
    W11 m ρ c main_v18 (ix3 kv t d) = lin (argsOf m c).x0 (argsOf m c).x7 t (col kv d) := by
  rw [W11_of m ρ c main_v18 (by decide), W10_of m ρ c main_v18 (by decide), W9_of m ρ c main_v18 (by decide),
    W8_of m ρ c main_v18 (by decide), vslc_eq]
  refine Eq.trans ?_ (v5_lin m ρ c (argsOf m c).x7 3 (by decide) (cat_3 m c) t (col kv d) ⟨804 + (col kv d).val, by omega⟩ rfl)
  generalize (W6 m ρ c main_v5 : FVec Ideal S2048x1664 .f32) = X
  exact turn_804 X kv t d

theorem kwin_eq : W7 m ρ c main_v21 = transpose S4x2048x64 [1, 0, 2] (shapeCast S2048x4x64 (extractStridedSlice S2048x256 ![0, 1060]
    (W6 m ρ c main_v5 : FVec Ideal S2048x1664 .f32) slices_S2048x1664_S2048x256_0_1060) shapeCasts_S2048x256_S2048x4x64)
    transposes_S2048x4x64_S4x2048x64_1_0_2 := by
  unfold W7
  after_results
  rfl

/-- The window keys by head. -/
theorem kwin (kv : Fin 4) (t : Fin 2048) (d : Fin 64) :
    W11 m ρ c main_v21 (ix3 kv t d) = lin (argsOf m c).x0 (argsOf m c).x8 t (col kv d) := by
  rw [W11_of m ρ c main_v21 (by decide), W10_of m ρ c main_v21 (by decide), W9_of m ρ c main_v21 (by decide),
    W8_of m ρ c main_v21 (by decide), kwin_eq]
  refine Eq.trans ?_ (v5_lin m ρ c (argsOf m c).x8 4 (by decide) (cat_4 m c) t (col kv d) ⟨1060 + (col kv d).val, by omega⟩ rfl)
  generalize (W6 m ρ c main_v5 : FVec Ideal S2048x1664 .f32) = X
  exact turn_1060 X kv t d

theorem vwin_eq : W7 m ρ c main_v24 = transpose S4x2048x64 [1, 0, 2] (shapeCast S2048x4x64 (extractStridedSlice S2048x256 ![0, 1316]
    (W6 m ρ c main_v5 : FVec Ideal S2048x1664 .f32) slices_S2048x1664_S2048x256_0_1316) shapeCasts_S2048x256_S2048x4x64)
    transposes_S2048x4x64_S4x2048x64_1_0_2 := by
  unfold W7
  after_results
  rfl

/-- The window values by head. -/
theorem vwin (kv : Fin 4) (t : Fin 2048) (d : Fin 64) :
    W11 m ρ c main_v24 (ix3 kv t d) = lin (argsOf m c).x0 (argsOf m c).x9 t (col kv d) := by
  rw [W11_of m ρ c main_v24 (by decide), W10_of m ρ c main_v24 (by decide), W9_of m ρ c main_v24 (by decide),
    W8_of m ρ c main_v24 (by decide), vwin_eq]
  refine Eq.trans ?_ (v5_lin m ρ c (argsOf m c).x9 5 (by decide) (cat_5 m c) t (col kv d) ⟨1316 + (col kv d).val, by omega⟩ rfl)
  generalize (W6 m ρ c main_v5 : FVec Ideal S2048x1664 .f32) = X
  exact turn_1316 X kv t d

theorem gates_eq : W7 m ρ c main_v8 = transpose S4x3x2048x3 [2, 1, 0, 3] (shapeCast S2048x3x4x3 (extractStridedSlice S2048x36 ![0, 0]
    (W6 m ρ c main_v5 : FVec Ideal S2048x1664 .f32) slices_S2048x1664_S2048x36_0_0) shapeCasts_S2048x36_S2048x3x4x3)
    transposes_S2048x3x4x3_S4x3x2048x3_2_1_0_3 := by
  unfold W7
  after_results
  rfl

theorem turn_gates (X : FVec Ideal S2048x1664 .f32) (kv : Fin 4) (r : Fin 3) (t : Fin 2048) (g : Fin 3) :
    transpose S4x3x2048x3 [2, 1, 0, 3] (shapeCast S2048x3x4x3 (extractStridedSlice S2048x36 ![0, 0]
    X slices_S2048x1664_S2048x36_0_0) shapeCasts_S2048x36_S2048x3x4x3)
    transposes_S2048x3x4x3_S4x3x2048x3_2_1_0_3 (ix4 kv r t g) = X (ix2 t ⟨(head r kv).val * 3 + g.val, by omega⟩) := by
  unfold head
  pointwise
  exact congrArg X (congrArg (ix2 t) (Fin.ext (by show r.val * 12 + kv.val * 3 + g.val = (r.val * 4 + kv.val) * 3 + g.val; omega)))

/-- The gates by head. -/
theorem gates (kv : Fin 4) (r : Fin 3) (t : Fin 2048) (g : Fin 3) :
    W11 m ρ c main_v8 (ix4 kv r t g) = gateAt (argsOf m c) (head r kv) t g := by
  rw [W11_of m ρ c main_v8 (by decide), W10_of m ρ c main_v8 (by decide), W9_of m ρ c main_v8 (by decide),
    W8_of m ρ c main_v8 (by decide), gates_eq]
  refine Eq.trans ?_ (v5_gate m ρ c (head r kv) t g ⟨(head r kv).val * 3 + g.val, by omega⟩ rfl)
  generalize (W6 m ρ c main_v5 : FVec Ideal S2048x1664 .f32) = X
  exact turn_gates X kv r t g

/-- The blocks of 32 tokens of a projection, one flattened row each. -/
def blocks (Y : FVec Ideal S128x16x4x64 .f32) : FVec Ideal S508x2048 .f32 :=
  shapeCast S508x2048 (transpose S127x4x32x64 [0, 2, 1, 3] (concatenate S127x32x4x64 1
    [⟨S127x16x4x64, extractStridedSlice S127x16x4x64 ![0, 0, 0, 0] Y slices_S128x16x4x64_S127x16x4x64_0_0_0_0⟩,
     ⟨S127x16x4x64, extractStridedSlice S127x16x4x64 ![1, 0, 0, 0] Y slices_S128x16x4x64_S127x16x4x64_1_0_0_0⟩]
    concatenates_S127x16x4x64_S127x16x4x64_S127x32x4x64_d1) transposes_S127x32x4x64_S127x4x32x64_0_2_1_3) shapeCasts_S127x4x32x64_S508x2048

/-- An entry of the blocks cut from a projection. -/
theorem blocks_apply (X : FVec Ideal S2048x256 .f32) (n : Fin 127) (kv : Fin 4) (k : Fin 2048) :
    blocks (shapeCast S128x16x4x64 (shapeCast S2048x4x64 X shapeCasts_S2048x256_S2048x4x64) shapeCasts_S2048x4x64_S128x16x4x64)
      (ix2 ⟨n.val * 4 + kv.val, by omega⟩ k) = X (ix2 ⟨n.val * 16 + k.val / 64, by omega⟩ (col kv ⟨k.val % 64, by omega⟩)) := by
  unfold blocks col
  pointwise
  by_cases h : k.val / 64 < 16
  · rw [dif_pos h]
  · rw [dif_neg h]
    exact congrArg X (congrArg (fun z => ix2 z _) (Fin.ext (by show (1 + n.val) * 16 + (k.val / 64 - 16) = n.val * 16 + k.val / 64; omega)))

/-- 508 rows padded to 512, at an index below 508. -/
theorem pad508 (x : FVec Ideal S508x2048 .f32) (v : FVec Ideal S_ .f32) (o : Fin 512) (k : Fin 2048) (h : o.val < 508) :
    pad S512x2048 ![0, 0] ![4, 0] ![0, 0] x v pads_S508x2048_S512x2048_040_000 h_S_ (ix2 o k) = x (ix2 ⟨o.val, h⟩ k) := by
  pointwise
  exact dif_pos h

theorem cut_k : W7 m ρ c main_v10 = shapeCast S2048x4x64 (extractStridedSlice S2048x256 ![0, 36]
    (W6 m ρ c main_v5 : FVec Ideal S2048x1664 .f32) slices_S2048x1664_S2048x256_0_36) shapeCasts_S2048x256_S2048x4x64 := by
  unfold W7
  after_results
  rfl

theorem rows_k : W7 m ρ c main_v30 = blocks (shapeCast S128x16x4x64 (shapeCast S2048x4x64 (extractStridedSlice S2048x256 ![0, 36]
    (W6 m ρ c main_v5 : FVec Ideal S2048x1664 .f32) slices_S2048x1664_S2048x256_0_36) shapeCasts_S2048x256_S2048x4x64)
    shapeCasts_S2048x4x64_S128x16x4x64) := by
  unfold W7
  after_results
  rfl

theorem padded_k : W8 m ρ c main_v31 = pad (α := Ideal .f32) S512x2048 ![0, 0] ![4, 0] ![0, 0] (W7 m ρ c main_v30 : FVec Ideal S508x2048 .f32)
    (sitofp .f32 (constantI S_ 32 0#32) : FVec Ideal S_ .f32) pads_S508x2048_S512x2048_040_000 h_S_ := by
  unfold W8
  after_results
  rfl

/-- The row of block `n` and key head `kv` that the summary reads. -/
theorem row_k (n : Fin 127) (kv : Fin 4) (k : Fin 2048) :
    W11 m ρ c main_v31 (ix2 ⟨n.val * 4 + kv.val, by omega⟩ k)
      = lin (argsOf m c).x0 (argsOf m c).x4 ⟨n.val * 16 + k.val / 64, by omega⟩ (col kv ⟨k.val % 64, by omega⟩) := by
  rw [W11_of m ρ c main_v31 (by decide), W10_of m ρ c main_v31 (by decide), W9_of m ρ c main_v31 (by decide), padded_k, rows_k]
  refine (pad508 _ _ _ _ (show n.val * 4 + kv.val < 508 by omega)).trans ((blocks_apply _ n kv k).trans ?_)
  refine Eq.trans ?_ (v5_lin m ρ c (argsOf m c).x4 0 (by decide) (cat_0 m c) _ (col kv ⟨k.val % 64, by omega⟩) ⟨36 + (col kv ⟨k.val % 64, by omega⟩).val, by omega⟩ rfl)
  generalize (W6 m ρ c main_v5 : FVec Ideal S2048x1664 .f32) = X
  unfold col
  pointwise

theorem cut_v : W7 m ρ c main_v12 = shapeCast S2048x4x64 (extractStridedSlice S2048x256 ![0, 292]
    (W6 m ρ c main_v5 : FVec Ideal S2048x1664 .f32) slices_S2048x1664_S2048x256_0_292) shapeCasts_S2048x256_S2048x4x64 := by
  unfold W7
  after_results
  rfl

theorem rows_v : W9 m ρ c main_v37 = blocks (shapeCast S128x16x4x64 (shapeCast S2048x4x64 (extractStridedSlice S2048x256 ![0, 292]
    (W6 m ρ c main_v5 : FVec Ideal S2048x1664 .f32) slices_S2048x1664_S2048x256_0_292) shapeCasts_S2048x256_S2048x4x64)
    shapeCasts_S2048x4x64_S128x16x4x64) := by
  rw [← cut_v, ← W8_of m ρ c main_v12 (by decide)]
  unfold W9
  after_results
  rfl

theorem padded_v : W10 m ρ c main_v38 = pad (α := Ideal .f32) S512x2048 ![0, 0] ![4, 0] ![0, 0] (W9 m ρ c main_v37 : FVec Ideal S508x2048 .f32)
    (sitofp .f32 (constantI S_ 32 0#32) : FVec Ideal S_ .f32) pads_S508x2048_S512x2048_040_000 h_S_ := by
  unfold W10
  after_results
  rfl

/-- The row of block `n` and key head `kv` that the summary reads. -/
theorem row_v (n : Fin 127) (kv : Fin 4) (k : Fin 2048) :
    W11 m ρ c main_v38 (ix2 ⟨n.val * 4 + kv.val, by omega⟩ k)
      = lin (argsOf m c).x0 (argsOf m c).x5 ⟨n.val * 16 + k.val / 64, by omega⟩ (col kv ⟨k.val % 64, by omega⟩) := by
  rw [W11_of m ρ c main_v38 (by decide), padded_v, rows_v]
  refine (pad508 _ _ _ _ (show n.val * 4 + kv.val < 508 by omega)).trans ((blocks_apply _ n kv k).trans ?_)
  refine Eq.trans ?_ (v5_lin m ρ c (argsOf m c).x5 1 (by decide) (cat_1 m c) _ (col kv ⟨k.val % 64, by omega⟩) ⟨292 + (col kv ⟨k.val % 64, by omega⟩).val, by omega⟩ rfl)
  generalize (W6 m ρ c main_v5 : FVec Ideal S2048x1664 .f32) = X
  unfold col
  pointwise

/-- The block positions as one row. -/
theorem pos_row (k : Fin 2048) : W11 m ρ c main_v39 (ix2 0 k) = (argsOf m c).x10 (ix2 ⟨k.val / 64, by omega⟩ ⟨k.val % 64, by omega⟩) := by
  have e : W11 m ρ c main_v39 = shapeCast S1x2048 (argsOf m c).x10 shapeCasts_S32x64_S1x2048 := by
    unfold W11
    after_results
    rw [W6_args m ρ c main_arg10 (by decide)]
    rfl
  rw [e]
  generalize (argsOf m c).x10 = X
  pointwise

/-- The first bias of the key summaries, as a row. -/
theorem bias_12 (k : Fin 64) : W11 m ρ c main_v40 (ix2 0 k) = (argsOf m c).x12 (ix1 k) := by
  have e : W11 m ρ c main_v40 = shapeCast S1x64 (argsOf m c).x12 shapeCasts_S64_S1x64 := by
    unfold W11
    after_results
    rw [W6_args m ρ c main_arg12 (by decide)]
    rfl
  rw [e]
  generalize (argsOf m c).x12 = X
  pointwise

/-- The second bias of the key summaries, as a row. -/
theorem bias_14 (k : Fin 64) : W11 m ρ c main_v41 (ix2 0 k) = (argsOf m c).x14 (ix1 k) := by
  have e : W11 m ρ c main_v41 = shapeCast S1x64 (argsOf m c).x14 shapeCasts_S64_S1x64 := by
    unfold W11
    after_results
    rw [W6_args m ρ c main_arg14 (by decide)]
    rfl
  rw [e]
  generalize (argsOf m c).x14 = X
  pointwise

/-- The first bias of the value summaries, as a row. -/
theorem bias_16 (k : Fin 64) : W11 m ρ c main_v42 (ix2 0 k) = (argsOf m c).x16 (ix1 k) := by
  have e : W11 m ρ c main_v42 = shapeCast S1x64 (argsOf m c).x16 shapeCasts_S64_S1x64 := by
    unfold W11
    after_results
    rw [W6_args m ρ c main_arg16 (by decide)]
    rfl
  rw [e]
  generalize (argsOf m c).x16 = X
  pointwise

/-- The second bias of the value summaries, as a row. -/
theorem bias_18 (k : Fin 64) : W11 m ρ c main_v43 (ix2 0 k) = (argsOf m c).x18 (ix1 k) := by
  have e : W11 m ρ c main_v43 = shapeCast S1x64 (argsOf m c).x18 shapeCasts_S64_S1x64 := by
    unfold W11
    after_results
    rw [W6_args m ρ c main_arg18 (by decide)]
    rfl
  rw [e]
  generalize (argsOf m c).x18 = X
  pointwise

end Cert.Proof
-- ==== Proof.Regions2.lean ====
/- What the block-summary call and the compressed-attention call leave in their result arrays. -/
module

public import proofs.«01_k».proof.Proof.Swin
public import proofs.«01_k».proof.Proof.Cmp
public import proofs.«01_k».proof.Proof.Dense
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

/-- The summaries of 512 flattened blocks. -/
def mlpArr (X : FVec Ideal S512x2048 .f32) (P : FVec Ideal S1x2048 .f32) (w1 : FVec Ideal S2048x64 .f32)
    (b1 : FVec Ideal S1x64 .f32) (w2 : FVec Ideal S64x64 .f32) (b2 : FVec Ideal S1x64 .f32) (j : S512x64.Idx) : EReal :=
  mlp (fun k => X (ix2 (j 0) k) + P (ix2 0 k)) (fun k h => w1 (ix2 k h)) (fun h => b1 (ix2 0 h))
    (fun h o => w2 (ix2 h o)) (fun o => b2 (ix2 0 o)) (j 1)

/-- The compressed branch's outputs. -/
def cmpArr (Q : FVec Ideal S3x4x2048x64 .f32) (K X : FVec Ideal S4x128x64 .f32) (j : S3x4x2048x64.Idx) : EReal :=
  att (cmpScore (fun e => Q (ix4 (j 0) (j 1) (j 2) e)) (fun n e => K (ix3 (j 1) n e)) (j 2).val)
    (fun n => X (ix3 (j 1) n (j 3)))

/-- The weights the blocks are chosen by. -/
def weightAt (Q : FVec Ideal S3x4x2048x64 .f32) (K : FVec Ideal S4x128x64 .f32) (kv : Fin 4) (t : Fin 2048)
    (n : Fin 128) : EReal :=
  if n.val < 127 then ∑ r : Fin 3, soft (cmpScore (fun e => Q (ix4 r kv t e)) (fun n e => K (ix3 kv n e)) t.val) n
  else ((-1 : ℝ) : EReal)

/-- The cover of the chosen blocks. -/
def coverArr (Q : FVec Ideal S3x4x2048x64 .f32) (K : FVec Ideal S4x128x64 .f32) (j : S4x2048x128.Idx) : EReal :=
  coverSum (chosen (weightAt Q K (j 0) (j 1)) 16) (j 2)

variable (V : (c : Dev nD) → (b : Ref sig .tc) → Buf (Elt Ideal) ((c : Thread nD τ).loc b))

theorem idx1 : ∀ t : Fin cfg1.N, win1_0.index t = ![0, 0]
    ∧ win1_1.index t = ![0, 0]
    ∧ win1_2.index t = ![0, 0]
    ∧ win1_3.index t = ![0, 0]
    ∧ win1_4.index t = ![0, 0]
    ∧ win1_5.index t = ![0, 0]
    ∧ win1_6.index t = ![0, 0]
    ∧ win1_7.index t = ![0, 0]
    ∧ win1_8.index t = ![0, 0]
    ∧ win1_9.index t = ![0, 0]
    ∧ win1_10.index t = ![0, 0] :=
  (by decide +kernel : ∀ t : Fin grid1.N, _)

theorem blk1_0 (c : Dev nD) : iblk1 V c 0 t1_0 = V c main_v31 := by blk_ext! [iblk1, idx1 t1_0]
theorem blk1_1 (c : Dev nD) : iblk1 V c 1 t1_0 = V c main_v38 := by blk_ext! [iblk1, idx1 t1_0]
theorem blk1_2 (c : Dev nD) : iblk1 V c 2 t1_0 = V c main_v39 := by blk_ext! [iblk1, idx1 t1_0]
theorem blk1_3 (c : Dev nD) : iblk1 V c 3 t1_0 = V c main_arg11 := by blk_ext! [iblk1, idx1 t1_0]
theorem blk1_4 (c : Dev nD) : iblk1 V c 4 t1_0 = V c main_v40 := by blk_ext! [iblk1, idx1 t1_0]
theorem blk1_5 (c : Dev nD) : iblk1 V c 5 t1_0 = V c main_arg13 := by blk_ext! [iblk1, idx1 t1_0]
theorem blk1_6 (c : Dev nD) : iblk1 V c 6 t1_0 = V c main_v41 := by blk_ext! [iblk1, idx1 t1_0]
theorem blk1_7 (c : Dev nD) : iblk1 V c 7 t1_0 = V c main_arg15 := by blk_ext! [iblk1, idx1 t1_0]
theorem blk1_8 (c : Dev nD) : iblk1 V c 8 t1_0 = V c main_v42 := by blk_ext! [iblk1, idx1 t1_0]
theorem blk1_9 (c : Dev nD) : iblk1 V c 9 t1_0 = V c main_arg17 := by blk_ext! [iblk1, idx1 t1_0]
theorem blk1_10 (c : Dev nD) : iblk1 V c 10 t1_0 = V c main_v43 := by blk_ext! [iblk1, idx1 t1_0]

/-- The key summaries' array that the summary call leaves. -/
theorem region1_k (c : Dev nD) : (dat1 V c).arrAt 11 cfg1.N
    = mlpArr (V c main_v31) (V c main_v39) (V c main_arg11) (V c main_v40) (V c main_arg13) (V c main_v41) := by
  refine (dat1 V c).arrAt_eq_of_after_last 11 t1_0 (by decide +kernel) _ fun j => ?_
  blk_simp
  rw [after1_11]
  frame_out
  rw [blk1_0, blk1_2, blk1_3, blk1_4, blk1_5, blk1_6]
  idx_vars j
  exact k1_k_apply _ _ _ _ _ _ j0 j1

/-- The value summaries' array that the summary call leaves. -/
theorem region1_v (c : Dev nD) : (dat1 V c).arrAt 12 cfg1.N
    = mlpArr (V c main_v38) (V c main_v39) (V c main_arg15) (V c main_v42) (V c main_arg17) (V c main_v43) := by
  refine (dat1 V c).arrAt_eq_of_after_last 12 t1_0 (by decide +kernel) _ fun j => ?_
  blk_simp
  rw [after1_12]
  frame_out
  rw [blk1_1, blk1_2, blk1_7, blk1_8, blk1_9, blk1_10]
  idx_vars j
  exact k1_v_apply _ _ _ _ _ _ j0 j1

theorem idx2 : ∀ t : Fin cfg2.N, win2_0.index t = ![0, t.val, 0, 0] ∧ win2_1.index t = ![t.val, 0, 0]
    ∧ win2_2.index t = ![t.val, 0, 0] ∧ win2_3.index t = ![0, t.val, 0, 0] ∧ win2_4.index t = ![t.val, 0, 0] :=
  (by decide +kernel : ∀ t : Fin grid2.N, _)

/-- The grid point's head group. -/
def head2 (t : Fin cfg2.N) : Fin 4 := ⟨t.val, (N_2 ▸ t.isLt : t.val < 4)⟩

theorem blk2_0 (c : Dev nD) (t : Fin cfg2.N) (r : Fin 3) (s : Fin 2048) (e : Fin 64) :
    iblk2 V c 0 t (ix4 r 0 s e) = V c main_v49 (ix4 r (head2 t) s e) := by blk_ext [iblk2, idx2 t, head2]
theorem blk2_1 (c : Dev nD) (t : Fin cfg2.N) (n : Fin 128) (e : Fin 64) :
    iblk2 V c 1 t (ix3 0 n e) = V c main_v46 (ix3 (head2 t) n e) := by blk_ext [iblk2, idx2 t, head2]
theorem blk2_2 (c : Dev nD) (t : Fin cfg2.N) (n : Fin 128) (e : Fin 64) :
    iblk2 V c 2 t (ix3 0 n e) = V c main_v48 (ix3 (head2 t) n e) := by blk_ext [iblk2, idx2 t, head2]

/-- The compressed branch's array that its call leaves. -/
theorem region2_o (c : Dev nD) : (dat2 V c).arrAt 3 cfg2.N = cmpArr (V c main_v49) (V c main_v46) (V c main_v48) := by
  refine (dat2 V c).arrAt_eq_of_covers 3 _ (by decide +kernel) fun t _ y => ?_
  blk_simp
  rw [after2_3]
  frame_out
  idx_vars y
  have he : ((cfg2.win 3).blk t).view.emb (ix4 y0 y1 y2 y3) = ix4 y0 (head2 t) y2 y3 := by blk_ext [idx2 t, head2]
  refine Eq.trans ?_ (congrArg (cmpArr (V c main_v49) (V c main_v46) (V c main_v48)) he).symm
  refine (pay4_apply _ _ _ y0 y1 y2 y3).trans ?_
  refine congr (congrArg att (congr (congr (congrArg cmpScore (funext fun e => ?_)) (funext fun n => funext fun e => ?_)) rfl))
    (funext fun n => ?_)
  · pointwise; exact blk2_0 V c t y0 y2 e
  · pointwise; exact blk2_1 V c t n e
  · exact blk2_2 V c t n y3

/-- The cover's array that the compressed branch's call leaves. -/
theorem region2_c (c : Dev nD) : (dat2 V c).arrAt 4 cfg2.N = coverArr (V c main_v49) (V c main_v46) := by
  refine (dat2 V c).arrAt_eq_of_covers 4 _ (by decide +kernel) fun t _ y => ?_
  blk_simp
  rw [after2_4]
  frame_out
  idx_vars y
  have he : ((cfg2.win 4).blk t).view.emb (ix3 y0 y1 y2) = ix3 (head2 t) y1 y2 := by blk_ext [idx2 t, head2]
  refine Eq.trans ?_ (congrArg (coverArr (V c main_v49) (V c main_v46)) he).symm
  refine (rounds_last _ _ (rounds5 _) y0 y1 y2).trans ?_
  refine congrArg (fun w => coverSum (chosen w 16) y2) (funext fun n => ?_)
  refine (pay5_apply _ _ y1 n).trans ?_
  refine congrArg (fun x : EReal => if n.val < 127 then x else ((-1 : ℝ) : EReal)) (Finset.sum_congr rfl fun r _ => ?_)
  refine congrFun (congrArg soft (congr (congr (congrArg cmpScore (funext fun e => ?_)) (funext fun n => funext fun e => ?_)) rfl)) n
  · pointwise; exact blk2_0 V c t r y1 e
  · pointwise; exact blk2_1 V c t n e

end Cert.Proof
-- ==== Proof.Regions3.lean ====
/- What the four attention calls leave in their result arrays, as functions of the arrays they read. -/
module

public import proofs.«01_k».proof.Proof.Swin
public import proofs.«01_k».proof.Proof.Cmp
public import proofs.«01_k».proof.Proof.Dense
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

/-- What an attention call of `n` selected-branch columns and `w` window columns from `off` leaves at (head in group,
    group, token, feature), from the arrays it reads. -/
def swinVal (n w off : Nat) (hn : n ≤ 2048) (hw : off + w ≤ 2048)
    (Q : FVec Ideal S3x4x2048x64 .f32) (Ks Vs Kw Vw : FVec Ideal S4x2048x64 .f32) (CM : FVec Ideal S4x2048x128 .f32)
    (Gt : FVec Ideal S4x3x2048x3 .f32) (O : FVec Ideal S3x4x2048x64 .f32) (r : Fin 3) (kv : Fin 4) (t : Fin 2048)
    (d : Fin 64) : EReal :=
  Gt (ix4 kv r t 0) * O (ix4 r kv t d)
    + Gt (ix4 kv r t 1) * att (selScore (n := n) (fun c => CM (ix3 kv t c)) (fun e => Q (ix4 r kv t e))
          (fun i e => Ks (ix3 kv ⟨i.val, by omega⟩ e)) t.val) (fun i => Vs (ix3 kv ⟨i.val, by omega⟩ d))
    + Gt (ix4 kv r t 2) * att (winScore (n := w) (fun e => Q (ix4 r kv t e))
          (fun i e => Kw (ix3 kv ⟨off + i.val, by omega⟩ e)) t.val off) (fun i => Vw (ix3 kv ⟨off + i.val, by omega⟩ d))

/-- The array one call leaves: its 512 queries start at `q0`. -/
def swinArr (q0 n w off : Nat) (hq : q0 + 512 ≤ 2048) (hn : n ≤ 2048) (hw : off + w ≤ 2048)
    (Q : FVec Ideal S3x4x2048x64 .f32) (Ks Vs Kw Vw : FVec Ideal S4x2048x64 .f32) (CM : FVec Ideal S4x2048x128 .f32)
    (Gt : FVec Ideal S4x3x2048x3 .f32) (O : FVec Ideal S3x4x2048x64 .f32) (j : S3x4x512x64.Idx) : EReal :=
  swinVal n w off hn hw Q Ks Vs Kw Vw CM Gt O (j 0) (j 1)
    ⟨q0 + (j 2).val, by have := (j 2).isLt; change (j 2).val < 512 at this; omega⟩ (j 3)

theorem swin_congr (q0 n w off : Nat) (hq : q0 + 512 ≤ 2048) (hn : n ≤ 2048) (hw : off + w ≤ 2048)
    (x0 : S3x1x512x64.Idx → EReal) (x1 x2 : Fin n → Fin 64 → EReal)
    (x3 x4 : Fin w → Fin 64 → EReal) (x5 : S1x512x128.Idx → EReal) (x6 : S1x3x512x3.Idx → EReal)
    (x7 : S3x1x512x64.Idx → EReal)
    (Q : FVec Ideal S3x4x2048x64 .f32) (Ks Vs Kw Vw : FVec Ideal S4x2048x64 .f32) (CM : FVec Ideal S4x2048x128 .f32)
    (Gt : FVec Ideal S4x3x2048x3 .f32) (O : FVec Ideal S3x4x2048x64 .f32) (r : Fin 3) (kv : Fin 4) (t : Fin 512)
    (d : Fin 64)
    (h0 : ∀ e, x0 (ix4 r 0 t e) = Q (ix4 r kv ⟨q0 + t.val, by omega⟩ e))
    (h1 : ∀ i e, x1 i e = Ks (ix3 kv ⟨i.val, by omega⟩ e)) (h2 : ∀ i e, x2 i e = Vs (ix3 kv ⟨i.val, by omega⟩ e))
    (h3 : ∀ i e, x3 i e = Kw (ix3 kv ⟨off + i.val, by omega⟩ e)) (h4 : ∀ i e, x4 i e = Vw (ix3 kv ⟨off + i.val, by omega⟩ e))
    (h5 : ∀ c, x5 (ix3 0 t c) = CM (ix3 kv ⟨q0 + t.val, by omega⟩ c))
    (h6 : ∀ g, x6 (ix4 0 r t g) = Gt (ix4 kv r ⟨q0 + t.val, by omega⟩ g))
    (h7 : ∀ d, x7 (ix4 r 0 t d) = O (ix4 r kv ⟨q0 + t.val, by omega⟩ d)) :
    swinAt q0 n w off x0 x1 x2 x3 x4 x5 x6 x7 r t d
      = swinArr q0 n w off hq hn hw Q Ks Vs Kw Vw CM Gt O (ix4 r kv t d) := by
  show _ = swinVal n w off hn hw Q Ks Vs Kw Vw CM Gt O r kv ⟨q0 + t.val, by omega⟩ d
  unfold swinAt swinVal
  rw [Nat.add_comm t.val q0, funext h0, funext h5, h6, h6, h6, h7, funext fun i => funext (h1 i), funext fun i => h2 i d,
    funext fun i => funext (h3 i), funext fun i => h4 i d]

variable (V : (c : Dev nD) → (b : Ref sig .tc) → Buf (Elt Ideal) ((c : Thread nD τ).loc b))

theorem idx3 : ∀ t : Fin cfg3.N, win3_0.index t = ![0, t.val, 0, 0] ∧ win3_1.index t = ![t.val, 0, 0]
    ∧ win3_2.index t = ![t.val, 0, 0] ∧ win3_3.index t = ![t.val, 0, 0] ∧ win3_4.index t = ![t.val, 0, 0]
    ∧ win3_5.index t = ![t.val, 0, 0] ∧ win3_6.index t = ![t.val, 0, 0, 0] ∧ win3_7.index t = ![0, t.val, 0, 0]
    ∧ win3_8.index t = ![0, t.val, 0, 0] :=
  (by decide +kernel : ∀ t : Fin grid3.N, _)

theorem idx3_0 (t : Fin cfg3.N) : win3_0.index t = ![0, t.val, 0, 0] := (idx3 t).1
theorem idx3_1 (t : Fin cfg3.N) : win3_1.index t = ![t.val, 0, 0] := (idx3 t).2.1
theorem idx3_2 (t : Fin cfg3.N) : win3_2.index t = ![t.val, 0, 0] := (idx3 t).2.2.1
theorem idx3_3 (t : Fin cfg3.N) : win3_3.index t = ![t.val, 0, 0] := (idx3 t).2.2.2.1
theorem idx3_4 (t : Fin cfg3.N) : win3_4.index t = ![t.val, 0, 0] := (idx3 t).2.2.2.2.1
theorem idx3_5 (t : Fin cfg3.N) : win3_5.index t = ![t.val, 0, 0] := (idx3 t).2.2.2.2.2.1
theorem idx3_6 (t : Fin cfg3.N) : win3_6.index t = ![t.val, 0, 0, 0] := (idx3 t).2.2.2.2.2.2.1
theorem idx3_7 (t : Fin cfg3.N) : win3_7.index t = ![0, t.val, 0, 0] := (idx3 t).2.2.2.2.2.2.2.1
theorem idx3_8 (t : Fin cfg3.N) : win3_8.index t = ![0, t.val, 0, 0] := (idx3 t).2.2.2.2.2.2.2.2

/-- The grid point's head group. -/
def head3 (t : Fin cfg3.N) : Fin 4 := ⟨t.val, (N_3 ▸ t.isLt : t.val < 4)⟩

theorem blk3_0 (c : Dev nD) (t : Fin cfg3.N) (r : Fin 3) (s : Fin 512) (e : Fin 64) :
    iblk3 V c 0 t (ix4 r 0 s e) = V c main_v49 (ix4 r (head3 t) ⟨0 + s.val, by omega⟩ e) := by
  blk_ext [iblk3, idx3_0 t, head3]
theorem blk3_1 (c : Dev nD) (t : Fin cfg3.N) (s : Fin 2048) (e : Fin 64) :
    iblk3 V c 1 t (ix3 0 s e) = V c main_v15 (ix3 (head3 t) s e) := by
  blk_ext [iblk3, idx3_1 t, head3]
theorem blk3_2 (c : Dev nD) (t : Fin cfg3.N) (s : Fin 2048) (e : Fin 64) :
    iblk3 V c 2 t (ix3 0 s e) = V c main_v18 (ix3 (head3 t) s e) := by
  blk_ext [iblk3, idx3_2 t, head3]
theorem blk3_3 (c : Dev nD) (t : Fin cfg3.N) (s : Fin 2048) (e : Fin 64) :
    iblk3 V c 3 t (ix3 0 s e) = V c main_v21 (ix3 (head3 t) s e) := by
  blk_ext [iblk3, idx3_3 t, head3]
theorem blk3_4 (c : Dev nD) (t : Fin cfg3.N) (s : Fin 2048) (e : Fin 64) :
    iblk3 V c 4 t (ix3 0 s e) = V c main_v24 (ix3 (head3 t) s e) := by
  blk_ext [iblk3, idx3_4 t, head3]
theorem blk3_5 (c : Dev nD) (t : Fin cfg3.N) (s : Fin 512) (e : Fin 128) :
    iblk3 V c 5 t (ix3 0 s e) = V c main_v50_1 (ix3 (head3 t) ⟨0 + s.val, by omega⟩ e) := by
  blk_ext [iblk3, idx3_5 t, head3]
theorem blk3_6 (c : Dev nD) (t : Fin cfg3.N) (r : Fin 3) (s : Fin 512) (g : Fin 3) :
    iblk3 V c 6 t (ix4 0 r s g) = V c main_v8 (ix4 (head3 t) r ⟨0 + s.val, by omega⟩ g) := by
  blk_ext [iblk3, idx3_6 t, head3]
theorem blk3_7 (c : Dev nD) (t : Fin cfg3.N) (r : Fin 3) (s : Fin 512) (e : Fin 64) :
    iblk3 V c 7 t (ix4 r 0 s e) = V c main_v50_0 (ix4 r (head3 t) ⟨0 + s.val, by omega⟩ e) := by
  blk_ext [iblk3, idx3_7 t, head3]

theorem emb3 (t : Fin cfg3.N) (y0 : Fin 3) (y1 : Fin 1) (y2 : Fin 512) (y3 : Fin 64) :
    ((cfg3.win 8).blk t).view.emb (ix4 y0 y1 y2 y3) = ix4 y0 (head3 t) y2 y3 := by
  blk_ext [idx3_8 t, head3]

/-- The array that the first attention call leaves. -/
theorem region3 (c : Dev nD) : (dat3 V c).arrAt 8 cfg3.N
    = swinArr 0 512 512 0 (by decide) (by decide) (by decide) (V c main_v49) (V c main_v15) (V c main_v18)
        (V c main_v21) (V c main_v24) (V c main_v50_1) (V c main_v8) (V c main_v50_0) := by
  refine (dat3 V c).arrAt_eq_of_covers 8 _ (by decide +kernel) fun t _ y => ?_
  blk_simp
  rw [after3_8]
  frame_out
  idx_vars y
  have he := emb3 t y0 y1 y2 y3
  refine Eq.trans ?_ (congrArg (swinArr 0 512 512 0 (by decide) (by decide) (by decide) (V c main_v49) (V c main_v15)
    (V c main_v18) (V c main_v21) (V c main_v24) (V c main_v50_1) (V c main_v8) (V c main_v50_0)) he).symm
  refine (k3_out _ _ _ _ _ _ _ _ y0 y1 y2 y3).trans ?_
  refine swin_congr _ _ _ _ _ _ _ _ _ _ _ _ _ _ _ _ _ _ _ _ _ _ _ y0 (head3 t) y2 y3 ?_ ?_ ?_ ?_ ?_ ?_ ?_ ?_
  · intro e; exact blk3_0 V c t y0 y2 e
  · intro i e; pointwise; exact blk3_1 V c t _ e
  · intro i e; pointwise; exact blk3_2 V c t _ e
  · intro i e; pointwise; exact blk3_3 V c t _ e
  · intro i e; pointwise; exact blk3_4 V c t _ e
  · intro e; exact blk3_5 V c t y2 e
  · intro g; exact blk3_6 V c t y0 y2 g
  · intro e; exact blk3_7 V c t y0 y2 e

end Cert.Proof
-- ==== Proof.Regions4.lean ====
/- What the second attention call leaves in their result array, as a function of the arrays it reads. -/
module

public import proofs.«01_k».proof.Proof.Regions3
public import proofs.«01_k».proof.Proof.Cmp
public import proofs.«01_k».proof.Proof.Dense
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (V : (c : Dev nD) → (b : Ref sig .tc) → Buf (Elt Ideal) ((c : Thread nD τ).loc b))

theorem idx4 : ∀ t : Fin cfg4.N, win4_0.index t = ![0, t.val, 1, 0] ∧ win4_1.index t = ![t.val, 0, 0]
    ∧ win4_2.index t = ![t.val, 0, 0] ∧ win4_3.index t = ![t.val, 0, 0] ∧ win4_4.index t = ![t.val, 0, 0]
    ∧ win4_5.index t = ![t.val, 1, 0] ∧ win4_6.index t = ![t.val, 0, 1, 0] ∧ win4_7.index t = ![0, t.val, 1, 0]
    ∧ win4_8.index t = ![0, t.val, 0, 0] :=
  (by decide +kernel : ∀ t : Fin grid4.N, _)

theorem idx4_0 (t : Fin cfg4.N) : win4_0.index t = ![0, t.val, 1, 0] := (idx4 t).1
theorem idx4_1 (t : Fin cfg4.N) : win4_1.index t = ![t.val, 0, 0] := (idx4 t).2.1
theorem idx4_2 (t : Fin cfg4.N) : win4_2.index t = ![t.val, 0, 0] := (idx4 t).2.2.1
theorem idx4_3 (t : Fin cfg4.N) : win4_3.index t = ![t.val, 0, 0] := (idx4 t).2.2.2.1
theorem idx4_4 (t : Fin cfg4.N) : win4_4.index t = ![t.val, 0, 0] := (idx4 t).2.2.2.2.1
theorem idx4_5 (t : Fin cfg4.N) : win4_5.index t = ![t.val, 1, 0] := (idx4 t).2.2.2.2.2.1
theorem idx4_6 (t : Fin cfg4.N) : win4_6.index t = ![t.val, 0, 1, 0] := (idx4 t).2.2.2.2.2.2.1
theorem idx4_7 (t : Fin cfg4.N) : win4_7.index t = ![0, t.val, 1, 0] := (idx4 t).2.2.2.2.2.2.2.1
theorem idx4_8 (t : Fin cfg4.N) : win4_8.index t = ![0, t.val, 0, 0] := (idx4 t).2.2.2.2.2.2.2.2

/-- The grid point's head group. -/
def head4 (t : Fin cfg4.N) : Fin 4 := ⟨t.val, (N_4 ▸ t.isLt : t.val < 4)⟩

theorem blk4_0 (c : Dev nD) (t : Fin cfg4.N) (r : Fin 3) (s : Fin 512) (e : Fin 64) :
    iblk4 V c 0 t (ix4 r 0 s e) = V c main_v49 (ix4 r (head4 t) ⟨512 + s.val, by omega⟩ e) := by
  blk_ext [iblk4, idx4_0 t, head4]
theorem blk4_1 (c : Dev nD) (t : Fin cfg4.N) (s : Fin 2048) (e : Fin 64) :
    iblk4 V c 1 t (ix3 0 s e) = V c main_v15 (ix3 (head4 t) s e) := by
  blk_ext [iblk4, idx4_1 t, head4]
theorem blk4_2 (c : Dev nD) (t : Fin cfg4.N) (s : Fin 2048) (e : Fin 64) :
    iblk4 V c 2 t (ix3 0 s e) = V c main_v18 (ix3 (head4 t) s e) := by
  blk_ext [iblk4, idx4_2 t, head4]
theorem blk4_3 (c : Dev nD) (t : Fin cfg4.N) (s : Fin 2048) (e : Fin 64) :
    iblk4 V c 3 t (ix3 0 s e) = V c main_v21 (ix3 (head4 t) s e) := by
  blk_ext [iblk4, idx4_3 t, head4]
theorem blk4_4 (c : Dev nD) (t : Fin cfg4.N) (s : Fin 2048) (e : Fin 64) :
    iblk4 V c 4 t (ix3 0 s e) = V c main_v24 (ix3 (head4 t) s e) := by
  blk_ext [iblk4, idx4_4 t, head4]
theorem blk4_5 (c : Dev nD) (t : Fin cfg4.N) (s : Fin 512) (e : Fin 128) :
    iblk4 V c 5 t (ix3 0 s e) = V c main_v50_1 (ix3 (head4 t) ⟨512 + s.val, by omega⟩ e) := by
  blk_ext [iblk4, idx4_5 t, head4]
theorem blk4_6 (c : Dev nD) (t : Fin cfg4.N) (r : Fin 3) (s : Fin 512) (g : Fin 3) :
    iblk4 V c 6 t (ix4 0 r s g) = V c main_v8 (ix4 (head4 t) r ⟨512 + s.val, by omega⟩ g) := by
  blk_ext [iblk4, idx4_6 t, head4]
theorem blk4_7 (c : Dev nD) (t : Fin cfg4.N) (r : Fin 3) (s : Fin 512) (e : Fin 64) :
    iblk4 V c 7 t (ix4 r 0 s e) = V c main_v50_0 (ix4 r (head4 t) ⟨512 + s.val, by omega⟩ e) := by
  blk_ext [iblk4, idx4_7 t, head4]

theorem emb4 (t : Fin cfg4.N) (y0 : Fin 3) (y1 : Fin 1) (y2 : Fin 512) (y3 : Fin 64) :
    ((cfg4.win 8).blk t).view.emb (ix4 y0 y1 y2 y3) = ix4 y0 (head4 t) y2 y3 := by
  blk_ext [idx4_8 t, head4]

/-- The array that the second attention call leaves. -/
theorem region4 (c : Dev nD) : (dat4 V c).arrAt 8 cfg4.N
    = swinArr 512 1024 1024 0 (by decide) (by decide) (by decide) (V c main_v49) (V c main_v15) (V c main_v18)
        (V c main_v21) (V c main_v24) (V c main_v50_1) (V c main_v8) (V c main_v50_0) := by
  refine (dat4 V c).arrAt_eq_of_covers 8 _ (by decide +kernel) fun t _ y => ?_
  blk_simp
  rw [after4_8]
  frame_out
  idx_vars y
  have he := emb4 t y0 y1 y2 y3
  refine Eq.trans ?_ (congrArg (swinArr 512 1024 1024 0 (by decide) (by decide) (by decide) (V c main_v49) (V c main_v15)
    (V c main_v18) (V c main_v21) (V c main_v24) (V c main_v50_1) (V c main_v8) (V c main_v50_0)) he).symm
  refine (k4_out _ _ _ _ _ _ _ _ y0 y1 y2 y3).trans ?_
  refine swin_congr _ _ _ _ _ _ _ _ _ _ _ _ _ _ _ _ _ _ _ _ _ _ _ y0 (head4 t) y2 y3 ?_ ?_ ?_ ?_ ?_ ?_ ?_ ?_
  · intro e; exact blk4_0 V c t y0 y2 e
  · intro i e; pointwise; exact blk4_1 V c t _ e
  · intro i e; pointwise; exact blk4_2 V c t _ e
  · intro i e; pointwise; exact blk4_3 V c t _ e
  · intro i e; pointwise; exact blk4_4 V c t _ e
  · intro e; exact blk4_5 V c t y2 e
  · intro g; exact blk4_6 V c t y0 y2 g
  · intro e; exact blk4_7 V c t y0 y2 e

end Cert.Proof
-- ==== Proof.Regions5.lean ====
/- What the third attention call leaves in their result array, as a function of the arrays it reads. -/
module

public import proofs.«01_k».proof.Proof.Regions3
public import proofs.«01_k».proof.Proof.Cmp
public import proofs.«01_k».proof.Proof.Dense
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (V : (c : Dev nD) → (b : Ref sig .tc) → Buf (Elt Ideal) ((c : Thread nD τ).loc b))

theorem idx5 : ∀ t : Fin cfg5.N, win5_0.index t = ![0, t.val, 2, 0] ∧ win5_1.index t = ![t.val, 0, 0]
    ∧ win5_2.index t = ![t.val, 0, 0] ∧ win5_3.index t = ![t.val, 0, 0] ∧ win5_4.index t = ![t.val, 0, 0]
    ∧ win5_5.index t = ![t.val, 2, 0] ∧ win5_6.index t = ![t.val, 0, 2, 0] ∧ win5_7.index t = ![0, t.val, 2, 0]
    ∧ win5_8.index t = ![0, t.val, 0, 0] :=
  (by decide +kernel : ∀ t : Fin grid5.N, _)

theorem idx5_0 (t : Fin cfg5.N) : win5_0.index t = ![0, t.val, 2, 0] := (idx5 t).1
theorem idx5_1 (t : Fin cfg5.N) : win5_1.index t = ![t.val, 0, 0] := (idx5 t).2.1
theorem idx5_2 (t : Fin cfg5.N) : win5_2.index t = ![t.val, 0, 0] := (idx5 t).2.2.1
theorem idx5_3 (t : Fin cfg5.N) : win5_3.index t = ![t.val, 0, 0] := (idx5 t).2.2.2.1
theorem idx5_4 (t : Fin cfg5.N) : win5_4.index t = ![t.val, 0, 0] := (idx5 t).2.2.2.2.1
theorem idx5_5 (t : Fin cfg5.N) : win5_5.index t = ![t.val, 2, 0] := (idx5 t).2.2.2.2.2.1
theorem idx5_6 (t : Fin cfg5.N) : win5_6.index t = ![t.val, 0, 2, 0] := (idx5 t).2.2.2.2.2.2.1
theorem idx5_7 (t : Fin cfg5.N) : win5_7.index t = ![0, t.val, 2, 0] := (idx5 t).2.2.2.2.2.2.2.1
theorem idx5_8 (t : Fin cfg5.N) : win5_8.index t = ![0, t.val, 0, 0] := (idx5 t).2.2.2.2.2.2.2.2

/-- The grid point's head group. -/
def head5 (t : Fin cfg5.N) : Fin 4 := ⟨t.val, (N_5 ▸ t.isLt : t.val < 4)⟩

theorem blk5_0 (c : Dev nD) (t : Fin cfg5.N) (r : Fin 3) (s : Fin 512) (e : Fin 64) :
    iblk5 V c 0 t (ix4 r 0 s e) = V c main_v49 (ix4 r (head5 t) ⟨1024 + s.val, by omega⟩ e) := by
  blk_ext [iblk5, idx5_0 t, head5]
theorem blk5_1 (c : Dev nD) (t : Fin cfg5.N) (s : Fin 2048) (e : Fin 64) :
    iblk5 V c 1 t (ix3 0 s e) = V c main_v15 (ix3 (head5 t) s e) := by
  blk_ext [iblk5, idx5_1 t, head5]
theorem blk5_2 (c : Dev nD) (t : Fin cfg5.N) (s : Fin 2048) (e : Fin 64) :
    iblk5 V c 2 t (ix3 0 s e) = V c main_v18 (ix3 (head5 t) s e) := by
  blk_ext [iblk5, idx5_2 t, head5]
theorem blk5_3 (c : Dev nD) (t : Fin cfg5.N) (s : Fin 2048) (e : Fin 64) :
    iblk5 V c 3 t (ix3 0 s e) = V c main_v21 (ix3 (head5 t) s e) := by
  blk_ext [iblk5, idx5_3 t, head5]
theorem blk5_4 (c : Dev nD) (t : Fin cfg5.N) (s : Fin 2048) (e : Fin 64) :
    iblk5 V c 4 t (ix3 0 s e) = V c main_v24 (ix3 (head5 t) s e) := by
  blk_ext [iblk5, idx5_4 t, head5]
theorem blk5_5 (c : Dev nD) (t : Fin cfg5.N) (s : Fin 512) (e : Fin 128) :
    iblk5 V c 5 t (ix3 0 s e) = V c main_v50_1 (ix3 (head5 t) ⟨1024 + s.val, by omega⟩ e) := by
  blk_ext [iblk5, idx5_5 t, head5]
theorem blk5_6 (c : Dev nD) (t : Fin cfg5.N) (r : Fin 3) (s : Fin 512) (g : Fin 3) :
    iblk5 V c 6 t (ix4 0 r s g) = V c main_v8 (ix4 (head5 t) r ⟨1024 + s.val, by omega⟩ g) := by
  blk_ext [iblk5, idx5_6 t, head5]
theorem blk5_7 (c : Dev nD) (t : Fin cfg5.N) (r : Fin 3) (s : Fin 512) (e : Fin 64) :
    iblk5 V c 7 t (ix4 r 0 s e) = V c main_v50_0 (ix4 r (head5 t) ⟨1024 + s.val, by omega⟩ e) := by
  blk_ext [iblk5, idx5_7 t, head5]

theorem emb5 (t : Fin cfg5.N) (y0 : Fin 3) (y1 : Fin 1) (y2 : Fin 512) (y3 : Fin 64) :
    ((cfg5.win 8).blk t).view.emb (ix4 y0 y1 y2 y3) = ix4 y0 (head5 t) y2 y3 := by
  blk_ext [idx5_8 t, head5]

/-- The array that the third attention call leaves. -/
theorem region5 (c : Dev nD) : (dat5 V c).arrAt 8 cfg5.N
    = swinArr 1024 1536 1024 512 (by decide) (by decide) (by decide) (V c main_v49) (V c main_v15) (V c main_v18)
        (V c main_v21) (V c main_v24) (V c main_v50_1) (V c main_v8) (V c main_v50_0) := by
  refine (dat5 V c).arrAt_eq_of_covers 8 _ (by decide +kernel) fun t _ y => ?_
  blk_simp
  rw [after5_8]
  frame_out
  idx_vars y
  have he := emb5 t y0 y1 y2 y3
  refine Eq.trans ?_ (congrArg (swinArr 1024 1536 1024 512 (by decide) (by decide) (by decide) (V c main_v49) (V c main_v15)
    (V c main_v18) (V c main_v21) (V c main_v24) (V c main_v50_1) (V c main_v8) (V c main_v50_0)) he).symm
  refine (k5_out _ _ _ _ _ _ _ _ y0 y1 y2 y3).trans ?_
  refine swin_congr _ _ _ _ _ _ _ _ _ _ _ _ _ _ _ _ _ _ _ _ _ _ _ y0 (head5 t) y2 y3 ?_ ?_ ?_ ?_ ?_ ?_ ?_ ?_
  · intro e; exact blk5_0 V c t y0 y2 e
  · intro i e; pointwise; exact blk5_1 V c t _ e
  · intro i e; pointwise; exact blk5_2 V c t _ e
  · intro i e; pointwise; exact blk5_3 V c t _ e
  · intro i e; pointwise; exact blk5_4 V c t _ e
  · intro e; exact blk5_5 V c t y2 e
  · intro g; exact blk5_6 V c t y0 y2 g
  · intro e; exact blk5_7 V c t y0 y2 e

end Cert.Proof
-- ==== Proof.Regions6.lean ====
/- What the fourth attention call leaves in their result array, as a function of the arrays it reads. -/
module

public import proofs.«01_k».proof.Proof.Regions3
public import proofs.«01_k».proof.Proof.Cmp
public import proofs.«01_k».proof.Proof.Dense
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (V : (c : Dev nD) → (b : Ref sig .tc) → Buf (Elt Ideal) ((c : Thread nD τ).loc b))

theorem idx6 : ∀ t : Fin cfg6.N, win6_0.index t = ![0, t.val, 3, 0] ∧ win6_1.index t = ![t.val, 0, 0]
    ∧ win6_2.index t = ![t.val, 0, 0] ∧ win6_3.index t = ![t.val, 0, 0] ∧ win6_4.index t = ![t.val, 0, 0]
    ∧ win6_5.index t = ![t.val, 3, 0] ∧ win6_6.index t = ![t.val, 0, 3, 0] ∧ win6_7.index t = ![0, t.val, 3, 0]
    ∧ win6_8.index t = ![0, t.val, 0, 0] :=
  (by decide +kernel : ∀ t : Fin grid6.N, _)

theorem idx6_0 (t : Fin cfg6.N) : win6_0.index t = ![0, t.val, 3, 0] := (idx6 t).1
theorem idx6_1 (t : Fin cfg6.N) : win6_1.index t = ![t.val, 0, 0] := (idx6 t).2.1
theorem idx6_2 (t : Fin cfg6.N) : win6_2.index t = ![t.val, 0, 0] := (idx6 t).2.2.1
theorem idx6_3 (t : Fin cfg6.N) : win6_3.index t = ![t.val, 0, 0] := (idx6 t).2.2.2.1
theorem idx6_4 (t : Fin cfg6.N) : win6_4.index t = ![t.val, 0, 0] := (idx6 t).2.2.2.2.1
theorem idx6_5 (t : Fin cfg6.N) : win6_5.index t = ![t.val, 3, 0] := (idx6 t).2.2.2.2.2.1
theorem idx6_6 (t : Fin cfg6.N) : win6_6.index t = ![t.val, 0, 3, 0] := (idx6 t).2.2.2.2.2.2.1
theorem idx6_7 (t : Fin cfg6.N) : win6_7.index t = ![0, t.val, 3, 0] := (idx6 t).2.2.2.2.2.2.2.1
theorem idx6_8 (t : Fin cfg6.N) : win6_8.index t = ![0, t.val, 0, 0] := (idx6 t).2.2.2.2.2.2.2.2

/-- The grid point's head group. -/
def head6 (t : Fin cfg6.N) : Fin 4 := ⟨t.val, (N_6 ▸ t.isLt : t.val < 4)⟩

theorem blk6_0 (c : Dev nD) (t : Fin cfg6.N) (r : Fin 3) (s : Fin 512) (e : Fin 64) :
    iblk6 V c 0 t (ix4 r 0 s e) = V c main_v49 (ix4 r (head6 t) ⟨1536 + s.val, by omega⟩ e) := by
  blk_ext [iblk6, idx6_0 t, head6]
theorem blk6_1 (c : Dev nD) (t : Fin cfg6.N) (s : Fin 2048) (e : Fin 64) :
    iblk6 V c 1 t (ix3 0 s e) = V c main_v15 (ix3 (head6 t) s e) := by
  blk_ext [iblk6, idx6_1 t, head6]
theorem blk6_2 (c : Dev nD) (t : Fin cfg6.N) (s : Fin 2048) (e : Fin 64) :
    iblk6 V c 2 t (ix3 0 s e) = V c main_v18 (ix3 (head6 t) s e) := by
  blk_ext [iblk6, idx6_2 t, head6]
theorem blk6_3 (c : Dev nD) (t : Fin cfg6.N) (s : Fin 2048) (e : Fin 64) :
    iblk6 V c 3 t (ix3 0 s e) = V c main_v21 (ix3 (head6 t) s e) := by
  blk_ext [iblk6, idx6_3 t, head6]
theorem blk6_4 (c : Dev nD) (t : Fin cfg6.N) (s : Fin 2048) (e : Fin 64) :
    iblk6 V c 4 t (ix3 0 s e) = V c main_v24 (ix3 (head6 t) s e) := by
  blk_ext [iblk6, idx6_4 t, head6]
theorem blk6_5 (c : Dev nD) (t : Fin cfg6.N) (s : Fin 512) (e : Fin 128) :
    iblk6 V c 5 t (ix3 0 s e) = V c main_v50_1 (ix3 (head6 t) ⟨1536 + s.val, by omega⟩ e) := by
  blk_ext [iblk6, idx6_5 t, head6]
theorem blk6_6 (c : Dev nD) (t : Fin cfg6.N) (r : Fin 3) (s : Fin 512) (g : Fin 3) :
    iblk6 V c 6 t (ix4 0 r s g) = V c main_v8 (ix4 (head6 t) r ⟨1536 + s.val, by omega⟩ g) := by
  blk_ext [iblk6, idx6_6 t, head6]
theorem blk6_7 (c : Dev nD) (t : Fin cfg6.N) (r : Fin 3) (s : Fin 512) (e : Fin 64) :
    iblk6 V c 7 t (ix4 r 0 s e) = V c main_v50_0 (ix4 r (head6 t) ⟨1536 + s.val, by omega⟩ e) := by
  blk_ext [iblk6, idx6_7 t, head6]

theorem emb6 (t : Fin cfg6.N) (y0 : Fin 3) (y1 : Fin 1) (y2 : Fin 512) (y3 : Fin 64) :
    ((cfg6.win 8).blk t).view.emb (ix4 y0 y1 y2 y3) = ix4 y0 (head6 t) y2 y3 := by
  blk_ext [idx6_8 t, head6]

/-- The array that the fourth attention call leaves. -/
theorem region6 (c : Dev nD) : (dat6 V c).arrAt 8 cfg6.N
    = swinArr 1536 2048 1024 1024 (by decide) (by decide) (by decide) (V c main_v49) (V c main_v15) (V c main_v18)
        (V c main_v21) (V c main_v24) (V c main_v50_1) (V c main_v8) (V c main_v50_0) := by
  refine (dat6 V c).arrAt_eq_of_covers 8 _ (by decide +kernel) fun t _ y => ?_
  blk_simp
  rw [after6_8]
  frame_out
  idx_vars y
  have he := emb6 t y0 y1 y2 y3
  refine Eq.trans ?_ (congrArg (swinArr 1536 2048 1024 1024 (by decide) (by decide) (by decide) (V c main_v49) (V c main_v15)
    (V c main_v18) (V c main_v21) (V c main_v24) (V c main_v50_1) (V c main_v8) (V c main_v50_0)) he).symm
  refine (k6_out _ _ _ _ _ _ _ _ y0 y1 y2 y3).trans ?_
  refine swin_congr _ _ _ _ _ _ _ _ _ _ _ _ _ _ _ _ _ _ _ _ _ _ _ y0 (head6 t) y2 y3 ?_ ?_ ?_ ?_ ?_ ?_ ?_ ?_
  · intro e; exact blk6_0 V c t y0 y2 e
  · intro i e; pointwise; exact blk6_1 V c t _ e
  · intro i e; pointwise; exact blk6_2 V c t _ e
  · intro i e; pointwise; exact blk6_3 V c t _ e
  · intro i e; pointwise; exact blk6_4 V c t _ e
  · intro e; exact blk6_5 V c t y2 e
  · intro g; exact blk6_6 V c t y0 y2 g
  · intro e; exact blk6_7 V c t y0 y2 e

end Cert.Proof
-- ==== Proof.Host2.lean ====
/- The kernel program's result as a function of its arguments. -/
module

public import proofs.«01_k».proof.Proof.Host1
public import proofs.«01_k».proof.Proof.Regions2
public import proofs.«01_k».proof.Proof.Regions3
public import proofs.«01_k».proof.Proof.Regions4
public import proofs.«01_k».proof.Proof.Regions5
public import proofs.«01_k».proof.Proof.Regions6
public import Idealize.ShloMosaic.Lib.Claim

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (m : (ℓ : Loc nD τ sig) → Buf (Elt Ideal) ℓ) (ρ : Dev nD → PrngReg) (c : Dev nD)

/-- A row of the summary call's result is the summary of the row's block. -/
theorem mlp_at (X : FVec Ideal S512x2048 .f32) (P : FVec Ideal S1x2048 .f32) (w1 : FVec Ideal S2048x64 .f32)
    (b1 : FVec Ideal S1x64 .f32) (w2 : FVec Ideal S64x64 .f32) (b2 : FVec Ideal S1x64 .f32) (i : Fin 512) (o : Fin 64)
    (f : Fin 2048 → EReal) (c1 c2 : Fin 64 → EReal) (hf : ∀ k, X (ix2 i k) + P (ix2 0 k) = f k)
    (h1 : ∀ h, b1 (ix2 0 h) = c1 h) (h2 : ∀ h, b2 (ix2 0 h) = c2 h) :
    mlpArr X P w1 b1 w2 b2 (ix2 i o) = mlp f (fun k h => w1 (ix2 k h)) c1 (fun h o => w2 (ix2 h o)) c2 o := by
  obtain rfl : (fun k => X (ix2 i k) + P (ix2 0 k)) = f := funext hf
  obtain rfl : (fun h => b1 (ix2 0 h)) = c1 := funext h1
  obtain rfl : (fun h => b2 (ix2 0 h)) = c2 := funext h2
  rfl

/-- The key summaries that the summary call leaves. -/
theorem summ_k (n : Fin 127) (kv : Fin 4) (o : Fin 64) :
    W12 m ρ c main_v44_0 (ix2 ⟨n.val * 4 + kv.val, by omega⟩ o) = keyC (argsOf m c) kv n o := by
  have e : W12 m ρ c main_v44_0 = mlpArr (W11 m ρ c main_v31) (W11 m ρ c main_v39) (W11 m ρ c main_arg11) (W11 m ρ c main_v40)
      (W11 m ρ c main_arg13) (W11 m ρ c main_v41) := (W12_arr m ρ c 11).trans (region1_k (V11 m ρ) c)
  rw [e, W11_args m ρ c main_arg11 (by decide), W11_args m ρ c main_arg13 (by decide)]
  exact mlp_at _ _ _ _ _ _ _ o _ _ _ (fun k => congrArg₂ (α := EReal) (β := EReal) (· + ·) (row_k m ρ c n kv k) (pos_row m ρ c k))
    (bias_12 m ρ c) (bias_14 m ρ c)

/-- The value summaries that the summary call leaves. -/
theorem summ_v (n : Fin 127) (kv : Fin 4) (o : Fin 64) :
    W12 m ρ c main_v44_1 (ix2 ⟨n.val * 4 + kv.val, by omega⟩ o) = valC (argsOf m c) kv n o := by
  have e : W12 m ρ c main_v44_1 = mlpArr (W11 m ρ c main_v38) (W11 m ρ c main_v39) (W11 m ρ c main_arg15) (W11 m ρ c main_v42)
      (W11 m ρ c main_arg17) (W11 m ρ c main_v43) := (W12_arr m ρ c 12).trans (region1_v (V11 m ρ) c)
  rw [e, W11_args m ρ c main_arg15 (by decide), W11_args m ρ c main_arg17 (by decide)]
  exact mlp_at _ _ _ _ _ _ _ o _ _ _ (fun k => congrArg₂ (α := EReal) (β := EReal) (· + ·) (row_v m ρ c n kv k) (pos_row m ρ c k))
    (bias_16 m ρ c) (bias_18 m ρ c)

theorem turn_c (X : FVec Ideal S512x64 .f32) (kv : Fin 4) (n : Fin 128) (d : Fin 64) :
    transpose S4x128x64 [1, 0, 2] (shapeCast S128x4x64 X shapeCasts_S512x64_S128x4x64) transposes_S128x4x64_S4x128x64_1_0_2 (ix3 kv n d)
      = X (ix2 ⟨n.val * 4 + kv.val, by omega⟩ d) := by
  pointwise

/-- The key summaries by head, of the 127 blocks. -/
theorem keyc (kv : Fin 4) (n : Fin 128) (h : n.val < 127) (d : Fin 64) :
    W13 m ρ c main_v46 (ix3 kv n d) = keyC (argsOf m c) kv ⟨n.val, h⟩ d := by
  have e : W13 m ρ c main_v46 = transpose S4x128x64 [1, 0, 2] (shapeCast S128x4x64 (W12 m ρ c main_v44_0 : FVec Ideal S512x64 .f32)
      shapeCasts_S512x64_S128x4x64) transposes_S128x4x64_S4x128x64_1_0_2 := by
    unfold W13
    after_results
    rfl
  rw [e]
  exact (turn_c _ kv n d).trans (summ_k m ρ c ⟨n.val, h⟩ kv d)

/-- The value summaries by head, of the 127 blocks. -/
theorem valc (kv : Fin 4) (n : Fin 128) (h : n.val < 127) (d : Fin 64) :
    W13 m ρ c main_v48 (ix3 kv n d) = valC (argsOf m c) kv ⟨n.val, h⟩ d := by
  have e : W13 m ρ c main_v48 = transpose S4x128x64 [1, 0, 2] (shapeCast S128x4x64 (W12 m ρ c main_v44_1 : FVec Ideal S512x64 .f32)
      shapeCasts_S512x64_S128x4x64) transposes_S128x4x64_S4x128x64_1_0_2 := by
    unfold W13
    after_results
    rfl
  rw [e]
  exact (turn_c _ kv n d).trans (summ_v m ρ c ⟨n.val, h⟩ kv d)

/-- The queries by key head. -/
theorem queries (r : Fin 3) (kv : Fin 4) (t : Fin 2048) (d : Fin 64) :
    W13 m ρ c main_v49 (ix4 r kv t d) = qry (argsOf m c) r kv t d := by
  have e : W13 m ρ c main_v49 = shapeCast S3x4x2048x64 (argsOf m c).x1 shapeCasts_S1x12x2048x64_S3x4x2048x64 := by
    unfold W13
    after_results
    rw [W12_args m ρ c main_arg1 (by decide)]
    rfl
  rw [e]
  unfold qry head
  generalize (argsOf m c).x1 = X
  pointwise

/-- A buffer written before the summary call and read by the last four. -/
theorem keep (b : Ref sig .tc) (h12 : ∀ w : Fin cfg1.W, Pipeline.arrRef spec1 w = b → (cfg1.win w).isOut = false)
    (h13 : b ∉ hostOps2_W) (h14 : ∀ w : Fin cfg2.W, Pipeline.arrRef spec2 w = b → (cfg2.win w).isOut = false) :
    W14 m ρ c b = W11 m ρ c b := by
  rw [W14_of m ρ c b h14, W13_of m ρ c b h13, W12_of m ρ c b h12]

/-- The compressed branch's array, as a function of the arrays its call reads. -/
theorem cmp_out : W14 m ρ c main_v50_0 = cmpArr (W13 m ρ c main_v49) (W13 m ρ c main_v46) (W13 m ρ c main_v48) :=
  (W14_arr m ρ c 3).trans (region2_o (V13 m ρ) c)

/-- The cover's array, as a function of the arrays its call reads. -/
theorem cover_out : W14 m ρ c main_v50_1 = coverArr (W13 m ρ c main_v49) (W13 m ρ c main_v46) :=
  (W14_arr m ρ c 4).trans (region2_c (V13 m ρ) c)

/-- An entry of the compressed branch, of given queries. -/
theorem cmp_at (A : Args) (Q : FVec Ideal S3x4x2048x64 .f32) (K X : FVec Ideal S4x128x64 .f32)
    (hQ : ∀ r kv t d, Q (ix4 r kv t d) = qry A r kv t d) (r : Fin 3) (kv : Fin 4) (t : Fin 2048) (d : Fin 64) :
    cmpArr Q K X (ix4 r kv t d) = att (cmpScore (qry A r kv t) (fun n e => K (ix3 kv n e)) t.val) (fun n => X (ix3 kv n d)) := by
  have e : (fun e => Q (ix4 r kv t e)) = qry A r kv t := funext (hQ r kv t)
  rw [← e]
  rfl

/-- An entry of the cover, of given queries. -/
theorem cover_at (A : Args) (Q : FVec Ideal S3x4x2048x64 .f32) (K : FVec Ideal S4x128x64 .f32)
    (hQ : ∀ r kv t d, Q (ix4 r kv t d) = qry A r kv t d) (kv : Fin 4) (t : Fin 2048) :
    (fun n => coverArr Q K (ix3 kv t n)) = coverSum (chosen (wgt A (fun n e => K (ix3 kv n e)) kv t) 16) := by
  have e : ∀ r, (fun e => Q (ix4 r kv t e)) = qry A r kv t := fun r => funext (hQ r kv t)
  have h : weightAt Q K kv t = wgt A (fun n e => K (ix3 kv n e)) kv t := by
    funext n
    unfold weightAt wgt
    simp only [e]
  rw [← h]
  rfl

/-- An attention call's value is the narrow form, of arrays that hold what the call is given. -/
theorem narrow_at (A : Args) (n w off : Nat) (hn : n ≤ 2048) (hw : off + w ≤ 2048)
    (Q : FVec Ideal S3x4x2048x64 .f32) (Ks Vs Kw Vw : FVec Ideal S4x2048x64 .f32) (K X : FVec Ideal S4x128x64 .f32)
    (Gt : FVec Ideal S4x3x2048x3 .f32) (hQ : ∀ r kv t d, Q (ix4 r kv t d) = qry A r kv t d)
    (h6 : ∀ kv t d, Ks (ix3 kv t d) = lin A.x0 A.x6 t (col kv d)) (h7 : ∀ kv t d, Vs (ix3 kv t d) = lin A.x0 A.x7 t (col kv d))
    (h8 : ∀ kv t d, Kw (ix3 kv t d) = lin A.x0 A.x8 t (col kv d)) (h9 : ∀ kv t d, Vw (ix3 kv t d) = lin A.x0 A.x9 t (col kv d))
    (hG : ∀ kv r t g, Gt (ix4 kv r t g) = gateAt A (head r kv) t g) (r : Fin 3) (kv : Fin 4) (t : Fin 2048) (d : Fin 64) :
    swinVal n w off hn hw Q Ks Vs Kw Vw (coverArr Q K) Gt (cmpArr Q K X) r kv t d
      = narrow A (fun n e => K (ix3 kv n e)) (fun n e => X (ix3 kv n e)) n w off hn hw r kv t d := by
  unfold swinVal narrow
  rw [cover_at A Q K hQ, cmp_at A Q K X hQ]
  have e : (fun e => Q (ix4 r kv t e)) = qry A r kv t := funext (hQ r kv t)
  rw [e]
  simp only [h6, h7, h8, h9, hG]

/-- The arrays the last four calls read, at the contents they have before the first of them. -/
theorem narrow_in (n w off : Nat) (hn : n ≤ 2048) (hw : off + w ≤ 2048) (r : Fin 3) (kv : Fin 4) (t : Fin 2048) (d : Fin 64) :
    swinVal n w off hn hw (W14 m ρ c main_v49) (W14 m ρ c main_v15) (W14 m ρ c main_v18) (W14 m ρ c main_v21)
        (W14 m ρ c main_v24) (W14 m ρ c main_v50_1) (W14 m ρ c main_v8) (W14 m ρ c main_v50_0) r kv t d
      = narrow (argsOf m c) (fun n e => W13 m ρ c main_v46 (ix3 kv n e)) (fun n e => W13 m ρ c main_v48 (ix3 kv n e))
          n w off hn hw r kv t d := by
  rw [cmp_out, cover_out, W14_of m ρ c main_v49 (by decide), keep m ρ c main_v15 (by decide) (by decide) (by decide),
    keep m ρ c main_v18 (by decide) (by decide) (by decide), keep m ρ c main_v21 (by decide) (by decide) (by decide),
    keep m ρ c main_v24 (by decide) (by decide) (by decide), keep m ρ c main_v8 (by decide) (by decide) (by decide)]
  exact narrow_at (argsOf m c) n w off hn hw (W13 m ρ c main_v49) (W11 m ρ c main_v15) (W11 m ρ c main_v18) (W11 m ρ c main_v21)
    (W11 m ρ c main_v24) (W13 m ρ c main_v46) (W13 m ρ c main_v48) (W11 m ρ c main_v8) (queries m ρ c) (kslc m ρ c) (vslc m ρ c) (kwin m ρ c) (vwin m ρ c)
    (gates m ρ c) r kv t d

end Cert.Proof
-- ==== Proof.Host3.lean ====
/- The last four calls, and the kernel program's result as a function of its arguments. -/
module

public import proofs.«01_k».proof.Proof.Host2
public import Idealize.ShloMosaic.Lib.Claim

@[expose] public section

set_option maxRecDepth 16384

noncomputable section

open Idealize.ShloMosaic Idealize.ShloMosaic.TcCoe Idealize.SL.Sem Idealize.ShloMosaic.Pipeline
open Cert.KernelIdeal Cert.KernelIdeal.Gen

namespace Cert.Proof

variable (m : (ℓ : Loc nD τ sig) → Buf (Elt Ideal) ℓ) (ρ : Dev nD → PrngReg) (c : Dev nD)

/-- The summary keys as the calls read them. -/
abbrev keysK (kv : Fin 4) : Fin 128 → Fin 64 → EReal := fun n e => W13 m ρ c main_v46 (ix3 kv n e)
/-- The summary values as the calls read them. -/
abbrev valsK (kv : Fin 4) : Fin 128 → Fin 64 → EReal := fun n e => W13 m ρ c main_v48 (ix3 kv n e)

/-- The first 512 queries' result. -/
theorem tile_3 (r : Fin 3) (kv : Fin 4) (i : Fin 512) (d : Fin 64) : W18 m ρ c main_v51 (ix4 r kv i d)
    = narrow (argsOf m c) (keysK m ρ c kv) (valsK m ρ c kv) 512 512 0 (by decide) (by decide) r kv ⟨0 + i.val, by omega⟩ d := by
  have e : W15 m ρ c main_v51 = _ := (W15_arr m ρ c 8).trans (region3 (V14 m ρ) c)
  rw [W18_of m ρ c main_v51 (by decide), W17_of m ρ c main_v51 (by decide), W16_of m ρ c main_v51 (by decide), e]
  exact narrow_in m ρ c 512 512 0 (by decide) (by decide) r kv ⟨0 + i.val, by omega⟩ d

/-- The second 512 queries' result. -/
theorem tile_4 (r : Fin 3) (kv : Fin 4) (i : Fin 512) (d : Fin 64) : W18 m ρ c main_v52 (ix4 r kv i d)
    = narrow (argsOf m c) (keysK m ρ c kv) (valsK m ρ c kv) 1024 1024 0 (by decide) (by decide) r kv ⟨512 + i.val, by omega⟩ d := by
  have e : W16 m ρ c main_v52 = _ := (W16_arr m ρ c 8).trans (region4 (V15 m ρ) c)
  rw [W18_of m ρ c main_v52 (by decide), W17_of m ρ c main_v52 (by decide), e]
  have h_v49 : W15 m ρ c main_v49 = W14 m ρ c main_v49 := by rw [W15_of m ρ c main_v49 (by decide)]
  have h_v15 : W15 m ρ c main_v15 = W14 m ρ c main_v15 := by rw [W15_of m ρ c main_v15 (by decide)]
  have h_v18 : W15 m ρ c main_v18 = W14 m ρ c main_v18 := by rw [W15_of m ρ c main_v18 (by decide)]
  have h_v21 : W15 m ρ c main_v21 = W14 m ρ c main_v21 := by rw [W15_of m ρ c main_v21 (by decide)]
  have h_v24 : W15 m ρ c main_v24 = W14 m ρ c main_v24 := by rw [W15_of m ρ c main_v24 (by decide)]
  have h_v50_1 : W15 m ρ c main_v50_1 = W14 m ρ c main_v50_1 := by rw [W15_of m ρ c main_v50_1 (by decide)]
  have h_v8 : W15 m ρ c main_v8 = W14 m ρ c main_v8 := by rw [W15_of m ρ c main_v8 (by decide)]
  have h_v50_0 : W15 m ρ c main_v50_0 = W14 m ρ c main_v50_0 := by rw [W15_of m ρ c main_v50_0 (by decide)]
  dsimp only [V15]
  rw [h_v49, h_v15, h_v18, h_v21, h_v24, h_v50_1, h_v8, h_v50_0]
  exact narrow_in m ρ c 1024 1024 0 (by decide) (by decide) r kv ⟨512 + i.val, by omega⟩ d

/-- The third 512 queries' result. -/
theorem tile_5 (r : Fin 3) (kv : Fin 4) (i : Fin 512) (d : Fin 64) : W18 m ρ c main_v53 (ix4 r kv i d)
    = narrow (argsOf m c) (keysK m ρ c kv) (valsK m ρ c kv) 1536 1024 512 (by decide) (by decide) r kv ⟨1024 + i.val, by omega⟩ d := by
  have e : W17 m ρ c main_v53 = _ := (W17_arr m ρ c 8).trans (region5 (V16 m ρ) c)
  rw [W18_of m ρ c main_v53 (by decide), e]
  have h_v49 : W16 m ρ c main_v49 = W14 m ρ c main_v49 := by rw [W16_of m ρ c main_v49 (by decide), W15_of m ρ c main_v49 (by decide)]
  have h_v15 : W16 m ρ c main_v15 = W14 m ρ c main_v15 := by rw [W16_of m ρ c main_v15 (by decide), W15_of m ρ c main_v15 (by decide)]
  have h_v18 : W16 m ρ c main_v18 = W14 m ρ c main_v18 := by rw [W16_of m ρ c main_v18 (by decide), W15_of m ρ c main_v18 (by decide)]
  have h_v21 : W16 m ρ c main_v21 = W14 m ρ c main_v21 := by rw [W16_of m ρ c main_v21 (by decide), W15_of m ρ c main_v21 (by decide)]
  have h_v24 : W16 m ρ c main_v24 = W14 m ρ c main_v24 := by rw [W16_of m ρ c main_v24 (by decide), W15_of m ρ c main_v24 (by decide)]
  have h_v50_1 : W16 m ρ c main_v50_1 = W14 m ρ c main_v50_1 := by rw [W16_of m ρ c main_v50_1 (by decide), W15_of m ρ c main_v50_1 (by decide)]
  have h_v8 : W16 m ρ c main_v8 = W14 m ρ c main_v8 := by rw [W16_of m ρ c main_v8 (by decide), W15_of m ρ c main_v8 (by decide)]
  have h_v50_0 : W16 m ρ c main_v50_0 = W14 m ρ c main_v50_0 := by rw [W16_of m ρ c main_v50_0 (by decide), W15_of m ρ c main_v50_0 (by decide)]
  dsimp only [V16]
  rw [h_v49, h_v15, h_v18, h_v21, h_v24, h_v50_1, h_v8, h_v50_0]
  exact narrow_in m ρ c 1536 1024 512 (by decide) (by decide) r kv ⟨1024 + i.val, by omega⟩ d

/-- The last 512 queries' result. -/
theorem tile_6 (r : Fin 3) (kv : Fin 4) (i : Fin 512) (d : Fin 64) : W18 m ρ c main_v54 (ix4 r kv i d)
    = narrow (argsOf m c) (keysK m ρ c kv) (valsK m ρ c kv) 2048 1024 1024 (by decide) (by decide) r kv ⟨1536 + i.val, by omega⟩ d := by
  have e : W18 m ρ c main_v54 = _ := (W18_arr m ρ c 8).trans (region6 (V17 m ρ) c)
  rw [e]
  have h_v49 : W17 m ρ c main_v49 = W14 m ρ c main_v49 := by rw [W17_of m ρ c main_v49 (by decide), W16_of m ρ c main_v49 (by decide), W15_of m ρ c main_v49 (by decide)]
  have h_v15 : W17 m ρ c main_v15 = W14 m ρ c main_v15 := by rw [W17_of m ρ c main_v15 (by decide), W16_of m ρ c main_v15 (by decide), W15_of m ρ c main_v15 (by decide)]
  have h_v18 : W17 m ρ c main_v18 = W14 m ρ c main_v18 := by rw [W17_of m ρ c main_v18 (by decide), W16_of m ρ c main_v18 (by decide), W15_of m ρ c main_v18 (by decide)]
  have h_v21 : W17 m ρ c main_v21 = W14 m ρ c main_v21 := by rw [W17_of m ρ c main_v21 (by decide), W16_of m ρ c main_v21 (by decide), W15_of m ρ c main_v21 (by decide)]
  have h_v24 : W17 m ρ c main_v24 = W14 m ρ c main_v24 := by rw [W17_of m ρ c main_v24 (by decide), W16_of m ρ c main_v24 (by decide), W15_of m ρ c main_v24 (by decide)]
  have h_v50_1 : W17 m ρ c main_v50_1 = W14 m ρ c main_v50_1 := by rw [W17_of m ρ c main_v50_1 (by decide), W16_of m ρ c main_v50_1 (by decide), W15_of m ρ c main_v50_1 (by decide)]
  have h_v8 : W17 m ρ c main_v8 = W14 m ρ c main_v8 := by rw [W17_of m ρ c main_v8 (by decide), W16_of m ρ c main_v8 (by decide), W15_of m ρ c main_v8 (by decide)]
  have h_v50_0 : W17 m ρ c main_v50_0 = W14 m ρ c main_v50_0 := by rw [W17_of m ρ c main_v50_0 (by decide), W16_of m ρ c main_v50_0 (by decide), W15_of m ρ c main_v50_0 (by decide)]
  dsimp only [V17]
  rw [h_v49, h_v15, h_v18, h_v21, h_v24, h_v50_1, h_v8, h_v50_0]
  exact narrow_in m ρ c 2048 1024 1024 (by decide) (by decide) r kv ⟨1536 + i.val, by omega⟩ d

/-- The four tiles side by side, at an index. -/
theorem join (a b e f : FVec Ideal S3x4x512x64 .f32) (r : Fin 3) (kv : Fin 4) (t : Fin 2048) (d : Fin 64) :
    shapeCast S1x12x2048x64 (concatenate S3x4x2048x64 2 [⟨S3x4x512x64, a⟩, ⟨S3x4x512x64, b⟩, ⟨S3x4x512x64, e⟩, ⟨S3x4x512x64, f⟩]
      concatenates_S3x4x512x64_S3x4x512x64_S3x4x512x64_S3x4x512x64_S3x4x2048x64_d2) shapeCasts_S3x4x2048x64_S1x12x2048x64 (ix4 0 (head r kv) t d)
      = if h0 : t.val < 512 then a (ix4 r kv ⟨t.val, h0⟩ d)
        else if h1 : t.val - 512 < 512 then b (ix4 r kv ⟨t.val - 512, h1⟩ d)
        else if h2 : t.val - 512 - 512 < 512 then e (ix4 r kv ⟨t.val - 512 - 512, h2⟩ d)
        else f (ix4 r kv ⟨t.val - 512 - 512 - 512, by omega⟩ d) := by
  unfold head
  pointwise

/-- The result is the four tiles, reshaped. -/
theorem out_eq : W19 m ρ c main_v56 = shapeCast S1x12x2048x64 (concatenate S3x4x2048x64 2
      [⟨S3x4x512x64, (W18 m ρ c main_v51 : FVec Ideal S3x4x512x64 .f32)⟩, ⟨S3x4x512x64, (W18 m ρ c main_v52 : FVec Ideal S3x4x512x64 .f32)⟩,
       ⟨S3x4x512x64, (W18 m ρ c main_v53 : FVec Ideal S3x4x512x64 .f32)⟩, ⟨S3x4x512x64, (W18 m ρ c main_v54 : FVec Ideal S3x4x512x64 .f32)⟩]
      concatenates_S3x4x512x64_S3x4x512x64_S3x4x512x64_S3x4x512x64_S3x4x2048x64_d2) shapeCasts_S3x4x2048x64_S1x12x2048x64 := by
  unfold W19
  after_results
  rfl

/-- The kernel program's result, given that every narrow reading that holds the tokens up to the query is `R`. -/
theorem kernel_at (r : Fin 3) (kv : Fin 4) (t : Fin 2048) (d : Fin 64) (R : EReal)
    (hR : ∀ (n w off : Nat) (hn : n ≤ 2048) (hw : off + w ≤ 2048), t.val < n → t.val < off + w → (off = 0 ∨ off + 512 ≤ t.val) →
      narrow (argsOf m c) (keysK m ρ c kv) (valsK m ρ c kv) n w off hn hw r kv t d = R) :
    W19 m ρ c main_v56 (ix4 0 (head r kv) t d) = R := by
  rw [out_eq]
  refine (join _ _ _ _ r kv t d).trans ?_
  obtain ⟨t, ht⟩ := t
  dsimp only at hR ⊢
  by_cases h0 : t < 512
  · rw [dif_pos h0, tile_3]
    simp only [Nat.zero_add]
    exact hR _ _ _ _ _ (by omega) (by omega) (by omega)
  rw [dif_neg h0]
  by_cases h1 : t - 512 < 512
  · rw [dif_pos h1, tile_4]
    simp only [show 512 + (t - 512) = t by omega]
    exact hR _ _ _ _ _ (by omega) (by omega) (by omega)
  rw [dif_neg h1]
  by_cases h2 : t - 512 - 512 < 512
  · rw [dif_pos h2, tile_5]
    simp only [show 1024 + (t - 512 - 512) = t by omega]
    exact hR _ _ _ _ _ (by omega) (by omega) (by omega)
  rw [dif_neg h2, tile_6]
  simp only [show 1536 + (t - 512 - 512 - 512) = t by omega]
  exact hR _ _ _ _ _ (by omega) (by omega) (by omega)

end Cert.Proof
-- ==== Proof.Equal.lean ====
/- The kernel's narrow calls compute the plain result, when the arguments the scores are computed from are finite. -/
module

public import proofs.«01_k».proof.Proof.Model

@[expose] public section

set_option maxRecDepth 16384

noncomputable section

open Idealize.ShloMosaic Idealize.ShloMosaic.TcCoe Idealize.SL.Sem
open Cert.KernelIdeal

namespace Cert.Proof

/-! ## Finite scores -/

theorem Fin'.coe (r : ℝ) : Fin' (r : EReal) := fin'_iff.mpr ⟨r, rfl⟩

theorem Fin'.one : Fin' 1 := Fin'.coe 1

theorem Fin'.erf {x : EReal} (hx : Fin' x) : Fin' (Ideal.erf x) := by
  obtain ⟨a, rfl⟩ := fin'_iff.mp hx
  exact Fin'.coe _

theorem Fin'.gelu {x : EReal} (hx : Fin' x) : Fin' (gelu x) :=
  ((Fin'.coe _).mul hx).mul (Fin'.one.add ((hx.mul (Fin'.coe _)).erf))

/-- The arguments the scores are computed from hold no infinity. -/
structure Args.Finite (A : Args) : Prop where
  f0 : ∀ i, Fin' (A.x0 i)
  f1 : ∀ i, Fin' (A.x1 i)
  f4 : ∀ i, Fin' (A.x4 i)
  f6 : ∀ i, Fin' (A.x6 i)
  f8 : ∀ i, Fin' (A.x8 i)
  f10 : ∀ i, Fin' (A.x10 i)
  f11 : ∀ i, Fin' (A.x11 i)
  f12 : ∀ i, Fin' (A.x12 i)
  f13 : ∀ i, Fin' (A.x13 i)
  f14 : ∀ i, Fin' (A.x14 i)

variable {A : Args} (hA : A.Finite)

theorem Args.Finite.lin (hA : A.Finite) {w : FVec Ideal S768x256 .f32} (hw : ∀ i, Fin' (w i)) (t : Fin 2048) (c : Fin 256) :
    Fin' (lin A.x0 w t c) := Fin'.sum _ _ fun _ _ => (hA.f0 _).mul (hw _)

theorem Args.Finite.keyC (hA : A.Finite) (kv : Fin 4) (n : Fin 127) (o : Fin 64) : Fin' (keyC A kv n o) :=
  (Fin'.sum _ _ fun _ _ =>
    (((Fin'.sum _ _ fun _ _ => ((hA.lin hA.f4 _ _).add (hA.f10 _)).mul (hA.f11 _)).add (hA.f12 _)).gelu).mul (hA.f13 _)).add
    (hA.f14 _)

theorem Args.Finite.score (hA : A.Finite) (r : Fin 3) (kv : Fin 4) (t : Fin 2048) {k : Fin 64 → EReal} (hk : ∀ d, Fin' (k d)) :
    Fin' ((∑ d, qry A r kv t d * k d) * ((8⁻¹ : ℝ) : EReal)) :=
  (Fin'.sum _ _ fun _ _ => (hA.f1 _).mul (hk _)).mul (Fin'.coe _)

theorem dotq_eq (q k : Fin 64 → EReal) : dotq q k = (∑ d, q d * k d) * ((8⁻¹ : ℝ) : EReal) := by
  rw [sum_mul_real _ _ _ (by norm_num)]
  exact Finset.sum_congr rfl fun d _ => mul_right_comm _ _ _

theorem ite_ne_top {p : Prop} [Decidable p] {x : EReal} (hx : Fin' x) : (if p then x else ⊥) ≠ ⊤ := by
  split
  · exact hx.2
  · exact bot_ne_top

/-- Of finite arguments no block score is positive infinity. -/
theorem cmpS_ne_top (hA : A.Finite) (r : Fin 3) (kv : Fin 4) (t : Fin 2048) (n : Fin 127) : cmpS A r kv t n ≠ ⊤ :=
  ite_ne_top (hA.score r kv t (hA.keyC kv n))

open Classical in
/-- Of finite arguments no selected score is positive infinity. -/
theorem selS_ne_top (hA : A.Finite) (r : Fin 3) (kv : Fin 4) (t j : Fin 2048) : selS A r kv t j ≠ ⊤ := by
  unfold selS
  exact ite_ne_top (hA.score r kv t fun d => hA.lin hA.f6 _ _)

/-- Of finite arguments no window score is positive infinity. -/
theorem winS_ne_top (hA : A.Finite) (r : Fin 3) (kv : Fin 4) (t j : Fin 2048) : winS A r kv t j ≠ ⊤ :=
  ite_ne_top (hA.score r kv t fun d => hA.lin hA.f8 _ _)

/-! ## The compressed branch -/

theorem le128 : 127 ≤ 128 := by decide

variable {kv : Fin 4} {K X : Fin 128 → Fin 64 → EReal}

/-- A column of the 128 is the block's score. -/
theorem cmpScore_at (hK : ∀ n (h : n.val < 127) d, K n d = keyC A kv ⟨n.val, h⟩ d) (r : Fin 3) (t : Fin 2048) (n : Fin 127) :
    cmpScore (qry A r kv t) K t.val (n.castLE le128) = cmpS A r kv t n := by
  unfold cmpScore cmpS
  have e : ∀ d, K (n.castLE le128) d = keyC A kv n d := fun d => hK (n.castLE le128) n.isLt d
  simp only [e]
  refine if_congr ?_ rfl rfl
  simp only [Bool.and_eq_true, decide_eq_true_eq, Fin.val_castLE]
  exact and_iff_left n.isLt

/-- The padded 128th column is masked. -/
theorem cmpScore_off (q : Fin 64 → EReal) (t : Nat) (n : Fin 128) (hn : ∀ i : Fin 127, i.castLE le128 ≠ n) :
    cmpScore q K t n = ⊥ := by
  have h : ¬ n.val < 127 := fun h => hn ⟨n.val, h⟩ rfl
  unfold cmpScore
  rw [if_neg]
  simp only [Bool.and_eq_true, decide_eq_true_eq]
  exact fun h' => h h'.2

/-- The first block is never masked. -/
theorem cmpS_zero (hA : A.Finite) (r : Fin 3) (t : Fin 2048) : cmpS A r kv t 0 ≠ ⊥ := by
  unfold cmpS
  rw [if_pos (by simp)]
  exact (hA.score r kv t (hA.keyC kv 0)).1

theorem cmpScore_ne_top (hA : A.Finite) (hK : ∀ n (h : n.val < 127) d, K n d = keyC A kv ⟨n.val, h⟩ d) (r : Fin 3) (t : Fin 2048)
    (n : Fin 128) : cmpScore (qry A r kv t) K t.val n ≠ ⊤ := by
  by_cases h : n.val < 127
  · have := cmpScore_at hK r t ⟨n.val, h⟩
    have e : n = Fin.castLE le128 (⟨n.val, h⟩ : Fin 127) := rfl
    rw [e, this]
    exact cmpS_ne_top hA r kv t _
  · rw [cmpScore_off _ _ n fun i e => h (by rw [← e]; exact i.isLt)]
    exact bot_ne_top

/-- The denominator of a query's block scores is not zero. -/
theorem cmp_den (hA : A.Finite) (hK : ∀ n (h : n.val < 127) d, K n d = keyC A kv ⟨n.val, h⟩ d) (r : Fin 3) (t : Fin 2048) :
    0 < rowDen (cmpScore (qry A r kv t) K t.val) :=
  rowDen_pos _ (cmpScore_ne_top hA hK r t) ((0 : Fin 127).castLE le128) (by rw [cmpScore_at hK]; exact cmpS_zero hA r t)

/-- The kernel's weight of a block among 128 columns is the plain weight among 127. -/
theorem cmp_soft (hK : ∀ n (h : n.val < 127) d, K n d = keyC A kv ⟨n.val, h⟩ d) (r : Fin 3) (t : Fin 2048) (n : Fin 127) :
    soft (cmpScore (qry A r kv t) K t.val) (n.castLE le128) = soft (cmpS A r kv t) n := by
  have h := soft_comp (Fin.castLE le128) (Fin.castLE_injective le128)
    (cmpScore (qry A r kv t) K t.val) (cmpScore_off _ _) n
  rw [h]
  exact congrArg (fun s => soft s n) (funext fun i => cmpScore_at hK r t i)

/-- The kernel's compressed attention over 128 columns is the plain one over 127 blocks. -/
theorem cmp_att (hA : A.Finite) (hK : ∀ n (h : n.val < 127) d, K n d = keyC A kv ⟨n.val, h⟩ d)
    (hX : ∀ n (h : n.val < 127) d, X n d = valC A kv ⟨n.val, h⟩ d) (r : Fin 3) (t : Fin 2048) (d : Fin 64) :
    att (cmpScore (qry A r kv t) K t.val) (fun n => X n d) = att (cmpS A r kv t) (fun n => valC A kv n d) := by
  rw [att_comp (Fin.castLE le128) (Fin.castLE_injective le128) _ _
    (cmpScore_off _ _) (cmp_den hA hK r t).ne']
  congr 1
  · exact funext fun i => cmpScore_at hK r t i
  · exact funext fun i => hX (i.castLE le128) i.isLt d

/-! ## The chosen blocks -/

/-- The weight that the kernel ranks a block by is the plain one. -/
theorem wgt_at (hK : ∀ n (h : n.val < 127) d, K n d = keyC A kv ⟨n.val, h⟩ d) (t : Fin 2048) (n : Fin 127) :
    wgt A K kv t (n.castLE le128) = pgrp A kv t n := by
  unfold wgt pgrp
  rw [if_pos (show (n.castLE le128).val < 127 from n.isLt)]
  exact Finset.sum_congr rfl fun r _ => cmp_soft hK r t n

/-- The padded column's weight is -1. -/
theorem wgt_last (t : Fin 2048) : wgt A K kv t 127 = ((-1 : ℝ) : EReal) := if_neg (by decide)

/-- A block's weight is not negative. -/
theorem wgt_nonneg (hA : A.Finite) (hK : ∀ n (h : n.val < 127) d, K n d = keyC A kv ⟨n.val, h⟩ d) (t : Fin 2048)
    (n : Fin 128) (hn : n.val < 127) : 0 ≤ wgt A K kv t n := by
  unfold wgt
  rw [if_pos hn]
  exact Finset.sum_nonneg fun r _ => soft_nonneg _ (cmp_den hA hK r t) n

/-- The kernel's sixteen rounds choose exactly the blocks that the reference chooses. -/
theorem chosen_picked (hA : A.Finite) (hK : ∀ n (h : n.val < 127) d, K n d = keyC A kv ⟨n.val, h⟩ d) (t : Fin 2048) (n : Fin 128) :
    chosen (wgt A K kv t) 16 n = true ↔ ∃ m : Fin 127, picked A kv t m ∧ m.val = n.val := by
  rw [chosen_sort _ (wgt_nonneg hA hK t) (wgt_last t)]
  have e : (fun m : Fin 127 => wgt A K kv t (m.castLE (by omega))) = pgrp A kv t := funext fun m => wgt_at hK t m
  rw [e]
  constructor
  · rintro ⟨i, hi⟩
    exact ⟨_, ⟨i, rfl⟩, hi⟩
  · rintro ⟨m, ⟨i, hi⟩, hm⟩
    exact ⟨i, (congrArg Fin.val hi).trans hm⟩

/-- A chosen block starts at or before the query. -/
theorem exists_seen (hA : A.Finite) (hK : ∀ n (h : n.val < 127) d, K n d = keyC A kv ⟨n.val, h⟩ d) (t : Fin 2048) :
    ∃ m : Fin 127, picked A kv t m ∧ m.val * 16 ≤ t.val := by
  have hw := wgt_nonneg hA hK t
  obtain ⟨m, hm, e⟩ := (chosen_picked hA hK t _).mp ((chosen_iff _ _ _).mpr ⟨0, by decide, rfl⟩)
  refine ⟨m, hm, ?_⟩
  have hb := (pick_best _ hw 0 (by decide) ((0 : Fin 127).castLE le128) rfl).1
  have em : pick (wgt A K kv t) 0 = m.castLE le128 := Fin.ext e.symm
  rw [em, wgt_at hK, wgt_at hK] at hb
  have h0 : 0 < pgrp A kv t 0 := by
    refine lt_of_lt_of_le (soft_pos _ (cmpS_ne_top hA 0 kv t) 0 (cmpS_zero hA 0 t)) ?_
    exact Finset.single_le_sum (f := fun r => soft (cmpS A r kv t) 0)
      (fun r _ => soft_nonneg _ (rowDen_pos _ (cmpS_ne_top hA r kv t) 0 (cmpS_zero hA r t)) 0) (Finset.mem_univ 0)
  by_contra hc
  refine absurd (lt_of_lt_of_le h0 hb) (not_lt.mpr (le_of_eq (Finset.sum_eq_zero fun r _ => ?_)))
  exact soft_off _ (rowDen_pos _ (cmpS_ne_top hA r kv t) 0 (cmpS_zero hA r t)).ne' _ (if_neg hc)

/-- The count of chosen blocks over a half block passes one half exactly when there is one. -/
theorem coverSum_iff (σ : Fin 128 → Bool) (c : Fin 128) :
    ((2⁻¹ : ℝ) : EReal) < coverSum σ c ↔ ∃ n : Fin 128, σ n = true ∧ (c.val = n.val ∨ c.val = n.val + 1) := by
  unfold coverSum
  simp only [Bool.or_eq_true, decide_eq_true_eq]
  constructor
  · intro h
    by_contra hc
    rw [Finset.sum_eq_zero fun n _ => ?_] at h
    · have := EReal.coe_lt_coe_iff.mp h
      norm_num at this
    · by_cases hn : σ n = true
      · rw [if_neg fun hq => hc ⟨n, hn, hq⟩, mul_zero]
      · rw [if_neg hn, zero_mul]
  · rintro ⟨n, hn, hq⟩
    have h1 : ((2⁻¹ : ℝ) : EReal) < 1 := EReal.coe_lt_coe_iff.mpr (by norm_num)
    refine lt_of_lt_of_le h1 ?_
    have := Finset.single_le_sum (f := fun n : Fin 128 => (if σ n = true then (1 : EReal) else 0)
        * (if c.val = n.val ∨ c.val = n.val + 1 then (1 : EReal) else 0))
      (fun m _ => mul_nonneg (by split <;> simp) (by split <;> simp)) (Finset.mem_univ n)
    simpa only [if_pos hq, if_pos hn, mul_one] using this

/-- The product with the expansion matrix reads the cover of the half block that a token lies in. -/
theorem maskAt_eq (cm : Fin 128 → EReal) (j : Nat) (hj : j < 2048) : maskAt cm j = cm ⟨j / 16, by omega⟩ := by
  unfold maskAt
  rw [Finset.sum_eq_single ⟨j / 16, by omega⟩]
  · rw [if_pos rfl, mul_one]
  · intro c _ hc
    rw [if_neg fun e => hc (Fin.ext e.symm), mul_zero]
  · exact fun h => absurd (Finset.mem_univ _) h

/-- The kernel's mask of a token holds exactly when a chosen block holds the token. -/
theorem mask_iff (hA : A.Finite) (hK : ∀ n (h : n.val < 127) d, K n d = keyC A kv ⟨n.val, h⟩ d) (t : Fin 2048) (j : Nat)
    (hj : j < 2048) :
    ((2⁻¹ : ℝ) : EReal) < maskAt (coverSum (chosen (wgt A K kv t) 16)) j ↔ covered A kv t j := by
  rw [maskAt_eq _ j hj, coverSum_iff]
  constructor
  · rintro ⟨n, hn, hq⟩
    obtain ⟨m, hm, e⟩ := (chosen_picked hA hK t n).mp hn
    have hq' : j / 16 = n.val ∨ j / 16 = n.val + 1 := hq
    exact ⟨m, hm, by omega, by omega⟩
  · rintro ⟨m, hm, h1, h2⟩
    refine ⟨m.castLE le128, (chosen_picked hA hK t _).mpr ⟨m, hm, rfl⟩, ?_⟩
    show j / 16 = m.val ∨ j / 16 = m.val + 1
    omega

/-! ## The selected branch and the window branch -/

/-- The denominator of a query's selected scores is not zero. -/
theorem selS_den (hA : A.Finite) (hK : ∀ n (h : n.val < 127) d, K n d = keyC A kv ⟨n.val, h⟩ d) (r : Fin 3) (t : Fin 2048) :
    rowDen (selS A r kv t) ≠ 0 := by
  obtain ⟨m, hm, hmt⟩ := exists_seen hA hK t
  refine (rowDen_pos _ (selS_ne_top hA r kv t) ⟨m.val * 16, by omega⟩ ?_).ne'
  unfold selS
  rw [if_pos ⟨⟨m, hm, le_refl _, by dsimp only; omega⟩, hmt⟩]
  exact (hA.score r kv t fun d => hA.lin hA.f6 _ _).1

open Classical in
/-- The selected attention over the columns up to the tile's end is the plain one over all columns. -/
theorem sel_att (hA : A.Finite) (hK : ∀ n (h : n.val < 127) d, K n d = keyC A kv ⟨n.val, h⟩ d) (r : Fin 3) (t : Fin 2048)
    (d : Fin 64) (n : Nat) (hn : n ≤ 2048) (ht : t.val < n) :
    att (selScore (n := n) (coverSum (chosen (wgt A K kv t) 16)) (qry A r kv t)
          (fun i e => lin A.x0 A.x6 ⟨i.val, by omega⟩ (col kv e)) t.val) (fun i => lin A.x0 A.x7 ⟨i.val, by omega⟩ (col kv d))
      = att (selS A r kv t) (fun j => lin A.x0 A.x7 j (col kv d)) := by
  rw [att_comp (fun i : Fin n => (i.castLE hn : Fin 2048)) (Fin.castLE_injective _) (selS A r kv t) _ ?_ (selS_den hA hK r t)]
  · congr 1
    funext i
    unfold selScore selS
    rw [dotq_eq]
    refine if_congr ?_ rfl rfl
    rw [Bool.and_eq_true, decide_eq_true_eq, decide_eq_true_eq, mask_iff hA hK t i.val (by omega)]
    exact Iff.rfl
  · intro j hj
    unfold selS
    refine if_neg fun h => hj ⟨j.val, ?_⟩ rfl
    have := h.2
    omega

/-- The denominator of a query's window scores is not zero. -/
theorem winS_den (hA : A.Finite) (r : Fin 3) (t : Fin 2048) : rowDen (winS A r kv t) ≠ 0 := by
  refine (rowDen_pos _ (winS_ne_top hA r kv t) t ?_).ne'
  unfold winS
  rw [if_pos ⟨le_refl _, by omega⟩]
  exact (hA.score r kv t fun d => hA.lin hA.f8 _ _).1

/-- The window attention over the tile's columns is the plain one over all columns. -/
theorem win_att (hA : A.Finite) (r : Fin 3) (t : Fin 2048) (d : Fin 64) (w off : Nat) (hw : off + w ≤ 2048)
    (ht : t.val < off + w) (ho : off = 0 ∨ off + 512 ≤ t.val) :
    att (winScore (n := w) (qry A r kv t) (fun i e => lin A.x0 A.x8 ⟨off + i.val, by omega⟩ (col kv e)) t.val off)
          (fun i => lin A.x0 A.x9 ⟨off + i.val, by omega⟩ (col kv d))
      = att (winS A r kv t) (fun j => lin A.x0 A.x9 j (col kv d)) := by
  rw [att_comp (fun i : Fin w => (⟨off + i.val, by omega⟩ : Fin 2048)) (fun a b e => Fin.ext (by have := congrArg Fin.val e; dsimp only at this; omega))
    (winS A r kv t) _ ?_ (winS_den hA r t)]
  · congr 1
    funext i
    unfold winScore winS
    rw [dotq_eq]
    refine if_congr ?_ rfl rfl
    simp only [Bool.and_eq_true, decide_eq_true_eq]
    omega
  · intro j hj
    refine if_neg fun h => ?_
    obtain ⟨h1, h2⟩ := h
    exact hj ⟨j.val - off, by omega⟩ (Fin.ext (by dsimp only; omega))

/-- A call that reads the first `n` tokens for the selected branch and `w` tokens from `off` for the window computes the
    plain result at a token both reach and whose window starts at or after `off`. -/
theorem narrow_eq (hA : A.Finite) (hK : ∀ n (h : n.val < 127) d, K n d = keyC A kv ⟨n.val, h⟩ d)
    (hX : ∀ n (h : n.val < 127) d, X n d = valC A kv ⟨n.val, h⟩ d) (n w off : Nat) (hn : n ≤ 2048) (hw : off + w ≤ 2048)
    (r : Fin 3) (t : Fin 2048) (d : Fin 64) (h1 : t.val < n) (h2 : t.val < off + w) (h3 : off = 0 ∨ off + 512 ≤ t.val) :
    narrow A K X n w off hn hw r kv t d = result A r kv t d := by
  unfold narrow result
  rw [cmp_att hA hK hX, sel_att hA hK r t d n hn h1, win_att hA r t d w off hw h2 h3]

end Cert.Proof
-- ==== Proof.Ref1.lean ====
/- The reference program's stages before any attention: gates, projections, summaries of the blocks. -/
module

public import proofs.«01_k».proof.Proof.Model
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof

variable (A : Args)

/-- The gates of the reference: the logistic of a token's row against a gate column, plus the bias. -/
theorem ref_gate (t : Fin 2048) (o : Fin 36) : val_main_v9 (F := Ideal) A.x0 A.x2 A.x3 (ix3 0 t o)
    = gateFn ((∑ e : Fin 768, A.x0 (ix3 0 t e) * A.x2 (ix2 e o)) + A.x3 (ix1 o)) := by
  unfold val_main_v9 val_main_v8 val_main_v7 val_main_v6 val_main_v5 val_main_v4 val_main_v3 val_main_v2 val_main_v1 val_main_v0 val_main_cst val_main_cst_0 gateFn
  pointwise

/-- The reference's gate of the compressed branch. -/
theorem ref_g0 (h : Fin 12) (t : Fin 2048) : val_main_v13 (F := Ideal) A.x0 A.x2 A.x3 (ix3 0 h t) = gateAt A h t 0 := by
  refine Eq.trans ?_ (ref_gate A t ⟨h.val * 3 + 0, by omega⟩)
  unfold val_main_v13 val_main_v12 val_main_v11 val_main_v10
  generalize val_main_v9 (F := Ideal) A.x0 A.x2 A.x3 = y
  pointwise

/-- The reference's gate of the selected branch. -/
theorem ref_g1 (h : Fin 12) (t : Fin 2048) : val_main_v15 (F := Ideal) A.x0 A.x2 A.x3 (ix3 0 h t) = gateAt A h t 1 := by
  refine Eq.trans ?_ (ref_gate A t ⟨h.val * 3 + 1, by omega⟩)
  unfold val_main_v15 val_main_v14 val_main_v11 val_main_v10
  generalize val_main_v9 (F := Ideal) A.x0 A.x2 A.x3 = y
  pointwise

/-- The reference's gate of the window branch. -/
theorem ref_g2 (h : Fin 12) (t : Fin 2048) : val_main_v17 (F := Ideal) A.x0 A.x2 A.x3 (ix3 0 h t) = gateAt A h t 2 := by
  refine Eq.trans ?_ (ref_gate A t ⟨h.val * 3 + 2, by omega⟩)
  unfold val_main_v17 val_main_v16 val_main_v11 val_main_v10
  generalize val_main_v9 (F := Ideal) A.x0 A.x2 A.x3 = y
  pointwise

/-- The compressed keys' projection in the reference. -/
theorem ref_p4 (t : Fin 2048) (kv : Fin 4) (d : Fin 64) :
    val_main_v19 (F := Ideal) A.x0 A.x4 (ix4 0 t kv d) = lin A.x0 A.x4 t (col kv d) := by
  unfold val_main_v19 val_main_v18 lin col
  pointwise

/-- The compressed values' projection in the reference. -/
theorem ref_p5 (t : Fin 2048) (kv : Fin 4) (d : Fin 64) :
    val_main_v21 (F := Ideal) A.x0 A.x5 (ix4 0 t kv d) = lin A.x0 A.x5 t (col kv d) := by
  unfold val_main_v21 val_main_v20 lin col
  pointwise

/-- The selected keys' projection in the reference. -/
theorem ref_p6 (t : Fin 2048) (kv : Fin 4) (d : Fin 64) :
    val_main_v23 (F := Ideal) A.x0 A.x6 (ix4 0 t kv d) = lin A.x0 A.x6 t (col kv d) := by
  unfold val_main_v23 val_main_v22 lin col
  pointwise

/-- The selected values' projection in the reference. -/
theorem ref_p7 (t : Fin 2048) (kv : Fin 4) (d : Fin 64) :
    val_main_v25 (F := Ideal) A.x0 A.x7 (ix4 0 t kv d) = lin A.x0 A.x7 t (col kv d) := by
  unfold val_main_v25 val_main_v24 lin col
  pointwise

/-- The window keys' projection in the reference. -/
theorem ref_p8 (t : Fin 2048) (kv : Fin 4) (d : Fin 64) :
    val_main_v27 (F := Ideal) A.x0 A.x8 (ix4 0 t kv d) = lin A.x0 A.x8 t (col kv d) := by
  unfold val_main_v27 val_main_v26 lin col
  pointwise

/-- The window values' projection in the reference. -/
theorem ref_p9 (t : Fin 2048) (kv : Fin 4) (d : Fin 64) :
    val_main_v29 (F := Ideal) A.x0 A.x9 (ix4 0 t kv d) = lin A.x0 A.x9 t (col kv d) := by
  unfold val_main_v29 val_main_v28 lin col
  pointwise

theorem start_word : ∀ n : Fin 127, IntOp.muli (BitVec.ofNat 32 n.val) 16#32 = BitVec.ofNat 32 (n.val * 16) := by decide +kernel

theorem fix_word (z : BitVec 32) (h : z.toNat < 4096) :
    Scalar.select (IntOp.cmpi .slt z 0#32) (IntOp.addi z 2048#32) z = z := by
  unfold Scalar.select IntOp.cmpi
  have : z.toInt = (z.toNat : ℤ) := by rw [BitVec.toInt_eq_toNat_cond]; split <;> omega
  have h2 : z.slt 0#32 = false := by
    rw [BitVec.slt, decide_eq_false_iff_not, this]; simp
  simp [h2]

/-- The start positions of the blocks and the tokens after them. -/
theorem ref_grid (n : Fin 127) (i : Fin 32) : val_main_v38 (F := Ideal) (ix2 n i) = BitVec.ofNat 32 (n.val * 16 + i.val) := by
  unfold val_main_v38 val_main_v37 val_main_v36 val_main_v35 val_main_v34 val_main_v33 val_main_v32 val_main_v31 val_main_v30 val_main_c
  pointwise
  rw [start_word]
  exact addi_word _ _

/-- The token that the gather reads for a block's place, as a word. -/
theorem ref_idx (n : Fin 127) (i : Fin 32) : val_main_v44 (F := Ideal) (ix3 n i 0) = BitVec.ofNat 32 (n.val * 16 + i.val) := by
  unfold val_main_v44 val_main_v43 val_main_v42 val_main_v41 val_main_v40 val_main_v39 val_main_c_1 val_main_c_2
  have := ref_grid n i
  generalize val_main_v38 (F := Ideal) = z at this ⊢
  pointwise
  rw [fix_word _ (by rw [this, BitVec.toNat_ofNat]; omega), this]

/-- The gather of blocks reads the token that its index word names, kept within the tokens. -/
theorem gather_at (x : FVec Ideal S1x2048x4x64 .f32) (z : IVec S127x32x1 32) (n : Fin 127) (i : Fin 32) (kv : Fin 4) (d : Fin 64) :
    Host.gather gather_S1x2048x4x64_S127x32x1_S1x127x32x4x64_034_1_n_n_1_2_11464 x z (ix5 0 n i kv d)
      = x (ix4 0 ⟨min (z (ix3 n i 0)).toInt.toNat 2047, by omega⟩ kv d) := by
  unfold Host.gather
  congr 1
  funext a
  refine Fin.ext ?_
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  show GatherDims.start _ _ _ _ + GatherDims.batchCoord _ _ _ + GatherDims.offCoord _ _ _ = _
  rcases h4 with rfl | rfl | rfl | rfl
  · unfold GatherDims.start
    rw [dif_neg (by decide), GatherDims.batchCoord_eq_zero _ _ _ (by decide)]
    unfold GatherDims.offCoord
    rw [dif_pos (by decide)]
    simp only [Nat.zero_add]
    rfl
  · rw [GatherDims.batchCoord_eq_zero _ _ _ (by decide), GatherDims.offCoord_eq_zero _ _ _ (by decide)]
    simp only [Nat.add_zero]
    unfold GatherDims.start
    rw [dif_pos (by decide)]
    refine congrArg (fun w : BitVec 32 => min w.toInt.toNat 2047) (congrArg z ?_)
    funext b; refine Fin.ext ?_
    match b with
    | ⟨0, _⟩ => rfl
    | ⟨1, _⟩ => rfl
    | ⟨2, _⟩ => rfl
  · unfold GatherDims.start
    rw [dif_neg (by decide), GatherDims.batchCoord_eq_zero _ _ _ (by decide)]
    unfold GatherDims.offCoord
    rw [dif_pos (by decide)]
    simp only [Nat.zero_add]
    rfl
  · unfold GatherDims.start
    rw [dif_neg (by decide), GatherDims.batchCoord_eq_zero _ _ _ (by decide)]
    unfold GatherDims.offCoord
    rw [dif_pos (by decide)]
    simp only [Nat.zero_add]
    rfl

theorem ref_idx' (n : Fin 127) (i : Fin 32) : val_main_v54 (F := Ideal) (ix3 n i 0) = BitVec.ofNat 32 (n.val * 16 + i.val) :=
  ref_idx n i

/-- The keys of a block before the positions are added. -/
theorem ref_blk_k (n : Fin 127) (i : Fin 32) (kv : Fin 4) (d : Fin 64) :
    val_main_v45 (F := Ideal) A.x0 A.x4 (ix5 0 n i kv d) = lin A.x0 A.x4 ⟨n.val * 16 + i.val, by omega⟩ (col kv d) := by
  unfold val_main_v45
  refine (gather_at _ _ n i kv d).trans ((ref_p4 A _ kv d).trans ?_)
  refine congrArg (fun z => lin A.x0 A.x4 z (col kv d)) (Fin.ext ?_)
  show min (val_main_v44 (F := Ideal) (ix3 n i 0)).toInt.toNat 2047 = n.val * 16 + i.val
  rw [ref_idx, ofNat_toInt (by omega)]
  simp only [Int.toNat_natCast]
  omega

/-- The values of a block before the positions are added. -/
theorem ref_blk_v (n : Fin 127) (i : Fin 32) (kv : Fin 4) (d : Fin 64) :
    val_main_v55 (F := Ideal) A.x0 A.x5 (ix5 0 n i kv d) = lin A.x0 A.x5 ⟨n.val * 16 + i.val, by omega⟩ (col kv d) := by
  unfold val_main_v55
  refine (gather_at _ _ n i kv d).trans ((ref_p5 A _ kv d).trans ?_)
  refine congrArg (fun z => lin A.x0 A.x5 z (col kv d)) (Fin.ext ?_)
  show min (val_main_v54 (F := Ideal) (ix3 n i 0)).toInt.toNat 2047 = n.val * 16 + i.val
  rw [ref_idx', ofNat_toInt (by omega)]
  simp only [Int.toNat_natCast]
  omega

theorem ref_flat (f : FVec Ideal S1x127x32x4x64 .f32) (n : Fin 127) (kv : Fin 4) (k : Fin 2048) :
    shapeCast S1x127x4x2048 (transpose S1x127x4x32x64 [0, 1, 3, 2, 4] f transposes_S1x127x32x4x64_S1x127x4x32x64_0_1_3_2_4) shapeCasts_S1x127x4x32x64_S1x127x4x2048 (ix4 0 n kv k)
      = f (ix5 0 n ⟨k.val / 64, by omega⟩ kv ⟨k.val % 64, by omega⟩) := by
  pointwise

/-- A block's keys with the positions, as one row of 2048. -/
theorem ref_row_k (n : Fin 127) (kv : Fin 4) (k : Fin 2048) :
    val_main_v60 (F := Ideal) A.x0 A.x4 A.x10 (ix4 0 n kv k) = flat A A.x4 n kv k := by
  unfold val_main_v60 val_main_v59
  refine (ref_flat _ n kv k).trans ?_
  unfold val_main_v48 val_main_v47 val_main_v46 flat
  have := ref_blk_k A n ⟨k.val / 64, by omega⟩ kv ⟨k.val % 64, by omega⟩
  generalize val_main_v45 (F := Ideal) A.x0 A.x4 = y at this ⊢
  pointwise
  rw [this]

/-- A block's values with the positions, as one row of 2048. -/
theorem ref_row_v (n : Fin 127) (kv : Fin 4) (k : Fin 2048) :
    val_main_v62 (F := Ideal) A.x0 A.x5 A.x10 (ix4 0 n kv k) = flat A A.x5 n kv k := by
  unfold val_main_v62 val_main_v61
  refine (ref_flat _ n kv k).trans ?_
  unfold val_main_v58 val_main_v57 val_main_v56 flat
  have := ref_blk_v A n ⟨k.val / 64, by omega⟩ kv ⟨k.val % 64, by omega⟩
  generalize val_main_v55 (F := Ideal) A.x0 A.x5 = y at this ⊢
  pointwise
  rw [this]

/-- The square root of the literal 2. -/
theorem root_two : Ideal.sqrt (Ideal.ofBits .f32 0x40000000#32) = ((Real.sqrt 2 : ℝ) : EReal) := by
  have h : Ideal.ofBits .f32 0x40000000#32 = ((2 : ℝ) : EReal) := by
    simp [Ideal.ofBits, Ideal.ieee]; norm_cast; norm_num
  rw [h]
  exact if_neg (by norm_num)

/-- To divide by the root of 2 is to multiply by its inverse. -/
theorem div_root (h : EReal) : Ideal.div h ((Real.sqrt 2 : ℝ) : EReal) = h * (((Real.sqrt 2)⁻¹ : ℝ) : EReal) := by
  unfold Ideal.div
  have h2 : (Real.sqrt 2) ≠ 0 := by positivity
  rw [if_neg (by exact_mod_cast h2), EReal.coe_inv]

/-- The hidden layer of the key summaries in the reference. -/
theorem ref_hid_k (n : Fin 127) (kv : Fin 4) (h : Fin 64) :
    val_main_v75 (F := Ideal) A.x0 A.x4 A.x10 A.x11 A.x12 (ix4 0 n kv h)
      = gelu ((∑ k : Fin 2048, flat A A.x4 n kv k * A.x11 (ix2 k h)) + A.x12 (ix1 h)) := by
  have e : val_main_v66 (F := Ideal) A.x0 A.x4 A.x10 A.x11 A.x12 (ix4 0 n kv h)
      = (∑ k : Fin 2048, flat A A.x4 n kv k * A.x11 (ix2 k h)) + A.x12 (ix1 h) := by
    unfold val_main_v66 val_main_v65 val_main_v64 val_main_v63
    have := fun k => ref_row_k A n kv k
    generalize val_main_v60 (F := Ideal) A.x0 A.x4 A.x10 = y at this ⊢
    pointwise
    simp only [this]
  unfold val_main_v75 val_main_v74 val_main_v73 val_main_v72 val_main_v71 val_main_v70 val_main_v69 val_main_v68 val_main_v67 val_main_cst_5 val_main_cst_6 val_main_cst_7 gelu
  generalize val_main_v66 (F := Ideal) A.x0 A.x4 A.x10 A.x11 A.x12 = y at e ⊢
  pointwise
  rw [e, root_two, div_root, show Ideal.ofBits FTy.f32 1056964608#32 = _ from bits_half]

/-- The reference's key summaries. -/
theorem ref_keyC (n : Fin 127) (kv : Fin 4) (o : Fin 64) :
    val_main_v98 (F := Ideal) A.x0 A.x4 A.x10 A.x11 A.x12 A.x13 A.x14 (ix4 0 kv n o) = keyC A kv n o := by
  unfold val_main_v98 val_main_v79 val_main_v78 val_main_v77 val_main_v76 keyC mlp
  have := fun h => ref_hid_k A n kv h
  generalize val_main_v75 (F := Ideal) A.x0 A.x4 A.x10 A.x11 A.x12 = y at this ⊢
  pointwise
  simp only [this]

/-- The hidden layer of the value summaries in the reference. -/
theorem ref_hid_v (n : Fin 127) (kv : Fin 4) (h : Fin 64) :
    val_main_v92 (F := Ideal) A.x0 A.x5 A.x10 A.x15 A.x16 (ix4 0 n kv h)
      = gelu ((∑ k : Fin 2048, flat A A.x5 n kv k * A.x15 (ix2 k h)) + A.x16 (ix1 h)) := by
  have e : val_main_v83 (F := Ideal) A.x0 A.x5 A.x10 A.x15 A.x16 (ix4 0 n kv h)
      = (∑ k : Fin 2048, flat A A.x5 n kv k * A.x15 (ix2 k h)) + A.x16 (ix1 h) := by
    unfold val_main_v83 val_main_v82 val_main_v81 val_main_v80
    have := fun k => ref_row_v A n kv k
    generalize val_main_v62 (F := Ideal) A.x0 A.x5 A.x10 = y at this ⊢
    pointwise
    simp only [this]
  unfold val_main_v92 val_main_v91 val_main_v90 val_main_v89 val_main_v88 val_main_v87 val_main_v86 val_main_v85 val_main_v84 val_main_cst_8 val_main_cst_9 val_main_cst_10 gelu
  generalize val_main_v83 (F := Ideal) A.x0 A.x5 A.x10 A.x15 A.x16 = y at e ⊢
  pointwise
  rw [e, root_two, div_root, show Ideal.ofBits FTy.f32 1056964608#32 = _ from bits_half]

/-- The reference's value summaries. -/
theorem ref_valC (n : Fin 127) (kv : Fin 4) (o : Fin 64) :
    val_main_v99 (F := Ideal) A.x0 A.x5 A.x10 A.x15 A.x16 A.x17 A.x18 (ix4 0 kv n o) = valC A kv n o := by
  unfold val_main_v99 val_main_v96 val_main_v95 val_main_v94 val_main_v93 valC mlp
  have := fun h => ref_hid_v A n kv h
  generalize val_main_v92 (F := Ideal) A.x0 A.x5 A.x10 A.x15 A.x16 = y at this ⊢
  pointwise
  simp only [this]

end Cert.Proof
-- ==== Proof.Ref2.lean ====
/- The reference program's compressed branch and its choice of blocks. -/
module

public import proofs.«01_k».proof.Proof.Ref1
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof

variable (A : Args)

/-- The reference's queries, grouped by key head. -/
theorem ref_qry (r : Fin 3) (kv : Fin 4) (t : Fin 2048) (d : Fin 64) :
    val_main_v97 (F := Ideal) A.x1 (ix5 0 r kv t d) = qry A r kv t d := by
  unfold val_main_v97 qry head
  pointwise

/-- The reference's masked scores of the blocks. -/
theorem ref_cmpS (r : Fin 3) (kv : Fin 4) (t : Fin 2048) (n : Fin 127) :
    val_main_v113 (F := Ideal) A.x0 A.x1 A.x4 A.x10 A.x11 A.x12 A.x13 A.x14 (ix5 0 r kv t n) = cmpS A r kv t n := by
  unfold val_main_v113 val_main_v112 val_main_v111 val_main_v110 val_main_v109 val_main_v108 val_main_v107 val_main_v106 val_main_v105 val_main_v104 val_main_v103 val_main_v102 val_main_v101 val_main_v100 val_main_cst_11 val_main_cst_12 val_main_v32 val_main_v31 val_main_v30 val_main_c
  have h1 := ref_keyC A n kv
  have h2 := ref_qry A r kv t
  generalize val_main_v98 (F := Ideal) A.x0 A.x4 A.x10 A.x11 A.x12 A.x13 A.x14 = y at h1 ⊢
  generalize val_main_v97 (F := Ideal) A.x1 = q at h2 ⊢
  pointwise
  simp only [h1, h2]
  rw [start_word, sle_word (by omega) (by omega), select_ofBool, bits_eighth, bits_ninf]
  unfold cmpS
  simp only [decide_eq_true_eq]
  exact if_congr Iff.rfl (congrArg (· * _) (Finset.sum_congr rfl fun d _ => mul_comm _ _)) rfl

theorem max_bits (x : EReal) :
    FloatOps.maximumf (F := Ideal) (φ := .f32) (FloatOps.ofBits .f32 0xFF800000#32) x = x := by
  have h : (FloatOps.ofBits .f32 0xFF800000#32 : Ideal .f32) = (⊥ : EReal) := bits_ninf
  rw [h]
  exact max_eq_right bot_le

/-- The maximum over the last axis of 127, at an index. -/
theorem row_max127 (y : FVec Ideal S1x3x4x2048x127 .f32) (r : Fin 3) (kv : Fin 4) (t : Fin 2048) :
    Host.reduce (FloatOps.maximumf (F := Ideal) (φ := .f32)) y (constant (F := Ideal) S_ .f32 0xFF800000#32)
      reducesTo_S1x3x4x2048x127_S1x3x4x2048_d4 h_S_ (ix4 0 r kv t) = rowMax (fun n => y (ix5 0 r kv t n)) := by
  pointwise
  rw [bits_ninf]
  rfl

/-- The maximum of a query's block scores in the reference. -/
theorem ref_foldC (r : Fin 3) (kv : Fin 4) (t : Fin 2048) :
    val_main_v114 (F := Ideal) A.x0 A.x1 A.x4 A.x10 A.x11 A.x12 A.x13 A.x14 (ix4 0 r kv t) = rowMax (cmpS A r kv t) := by
  unfold val_main_v114 val_main_cst_13
  exact (row_max127 _ r kv t).trans (congrArg rowMax (funext fun n => ref_cmpS A r kv t n))

/-- The maximum that the reference's softmax subtracts. -/
theorem ref_maxC (r : Fin 3) (kv : Fin 4) (t : Fin 2048) :
    val_main_v116 (F := Ideal) A.x0 A.x1 A.x4 A.x10 A.x11 A.x12 A.x13 A.x14 (ix4 0 r kv t) = rowMax (cmpS A r kv t) := by
  rw [val_main_v116_apply, val_main_v115_apply, val_main_cst_14_apply, ref_foldC]
  exact max_bits _

/-- An exponential of the reference's softmax of the block scores. -/
theorem ref_expC (r : Fin 3) (kv : Fin 4) (t : Fin 2048) (n : Fin 127) :
    val_main_v120 (F := Ideal) A.x0 A.x1 A.x4 A.x10 A.x11 A.x12 A.x13 A.x14 (ix5 0 r kv t n) = Ideal.exp (cmpS A r kv t n - rowMax (cmpS A r kv t)) := by
  unfold val_main_v120 val_main_v119 val_main_v118 val_main_v117
  have h1 := ref_cmpS A r kv t n
  have h2 := ref_maxC A r kv t
  generalize val_main_v116 (F := Ideal) A.x0 A.x1 A.x4 A.x10 A.x11 A.x12 A.x13 A.x14 = z at h2 ⊢
  generalize val_main_v113 (F := Ideal) A.x0 A.x1 A.x4 A.x10 A.x11 A.x12 A.x13 A.x14 = y at h1 ⊢
  pointwise
  rw [h1, h2]

/-- The sum of a query's exponentials. -/
theorem ref_denC (r : Fin 3) (kv : Fin 4) (t : Fin 2048) :
    val_main_v121 (F := Ideal) A.x0 A.x1 A.x4 A.x10 A.x11 A.x12 A.x13 A.x14 (ix4 0 r kv t) = rowDen (cmpS A r kv t) := by
  unfold val_main_v121 val_main_cst_15 rowDen
  have h1 := ref_expC A r kv t
  generalize val_main_v120 (F := Ideal) A.x0 A.x1 A.x4 A.x10 A.x11 A.x12 A.x13 A.x14 = y at h1 ⊢
  pointwise
  simp only [h1]

/-- A softmax weight of a block in the reference. -/
theorem ref_softC (r : Fin 3) (kv : Fin 4) (t : Fin 2048) (n : Fin 127) :
    val_main_v124 (F := Ideal) A.x0 A.x1 A.x4 A.x10 A.x11 A.x12 A.x13 A.x14 (ix5 0 r kv t n) = soft (cmpS A r kv t) n := by
  unfold val_main_v124 val_main_v123 val_main_v122 soft
  have h1 := ref_expC A r kv t n
  have h2 := ref_denC A r kv t
  generalize val_main_v121 (F := Ideal) A.x0 A.x1 A.x4 A.x10 A.x11 A.x12 A.x13 A.x14 = z at h2 ⊢
  generalize val_main_v120 (F := Ideal) A.x0 A.x1 A.x4 A.x10 A.x11 A.x12 A.x13 A.x14 = y at h1 ⊢
  pointwise
  rw [h1, h2]

/-- The compressed branch of the reference: the attention of the block scores against the value summaries. -/
theorem ref_outC (r : Fin 3) (kv : Fin 4) (t : Fin 2048) (d : Fin 64) :
    val_main_v127 (F := Ideal) A.x0 A.x1 A.x4 A.x5 A.x10 A.x11 A.x12 A.x13 A.x14 A.x15 A.x16 A.x17 A.x18 (ix4 0 (head r kv) t d) = att (cmpS A r kv t) (fun n => valC A kv n d) := by
  unfold val_main_v127 val_main_v126 val_main_v125 head
  have h1 := ref_softC A r kv t
  have h2 := fun n => ref_valC A n kv d
  generalize val_main_v124 (F := Ideal) A.x0 A.x1 A.x4 A.x10 A.x11 A.x12 A.x13 A.x14 = y at h1 ⊢
  generalize val_main_v99 (F := Ideal) A.x0 A.x5 A.x10 A.x15 A.x16 A.x17 A.x18 = z at h2 ⊢
  pointwise
  simp only [h1, h2]
  exact Finset.sum_congr rfl fun n _ => mul_comm _ _

/-- A block's weight in the reference, summed over the three query heads that share a key head. -/
theorem ref_pgrp (kv : Fin 4) (t : Fin 2048) (n : Fin 127) :
    val_main_v128 (F := Ideal) A.x0 A.x1 A.x4 A.x10 A.x11 A.x12 A.x13 A.x14 (ix4 0 kv t n) = pgrp A kv t n := by
  unfold val_main_v128 val_main_cst_16 pgrp
  have h1 := fun r => ref_softC A r kv t n
  generalize val_main_v124 (F := Ideal) A.x0 A.x1 A.x4 A.x10 A.x11 A.x12 A.x13 A.x14 = y at h1 ⊢
  pointwise
  simp only [h1]

end Cert.Proof
-- ==== Proof.Ref3.lean ====
/- The reference program's choice of blocks. -/
module

public import proofs.«01_k».proof.Proof.Ref2
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof

variable (A : Args)

/-- The order that the descending sort compares by. -/
theorem cmp_gt (a b : EReal) : ((FloatOps.cmpfTotal (F := Ideal) (φ := .f32) CmpDirection.gt a b) == 1#1) = decide (b < a) := by
  show (Ideal.cmp .ogt a b == 1#1) = _
  unfold Ideal.cmp
  by_cases h : b < a <;> simp [h]

/-- The positions that the sort carries along, at an index, for any keys and positions. -/
theorem sort_pos (y : FVec Ideal S1x4x2048x127 .f32) (z : IVec S1x4x2048x127 32) (j : S1x4x2048x127.Idx)
    (f : Fin 127 → Fin 127 → Bool)
    (hf : ∀ k k' : Fin 127, (FloatOps.cmpfTotal (F := Ideal) (φ := .f32) CmpDirection.gt (y (j.along 3 k)) (y (j.along 3 k')) == 1#1) = f k k') :
    (Host.sort2 S1x4x2048x127 3 (fun l r => FloatOps.cmpfTotal (F := Ideal) (φ := .f32) CmpDirection.gt l.1 r.1) y z).2 j
      = z (j.along 3 (sortedFrom f (j 3))) := by
  have e : (fun k k' : Fin 127 => FloatOps.cmpfTotal (F := Ideal) (φ := .f32) CmpDirection.gt (y (j.along 3 k)) (y (j.along 3 k')) == 1#1) = f :=
    funext fun k => funext fun k' => hf k k'
  rw [← e]
  unfold Host.sort2
  rw [dif_pos (by decide)]
  rfl

theorem along_at (kv : Fin 4) (t : Fin 2048) (n k : Fin 127) :
    Shape.Idx.along (s := S1x4x2048x127) (ix4 0 kv t n) 3 k = ix4 0 kv t k := by
  funext a; fin_cases a <;> rfl

theorem hot_word (b : Bool) : (FloatOps.uitofp .f32 (BitVec.ofBool b) : Ideal .f32) = if b = true then (1 : EReal) else 0 := by
  cases b
  · show (((0 : ℕ) : ℝ) : EReal) = 0; simp
  · show (((1 : ℕ) : ℝ) : EReal) = 1; simp

/-- The count of covers is positive exactly when there is one. -/
theorem cov_pos {p q : Nat} (P : Fin p → Fin q → Prop) (Q : Fin q → Prop) [∀ i n, Decidable (P i n)] [∀ n, Decidable (Q n)] :
    0 < (∑ n, (∑ i, if P i n then (1 : EReal) else 0) * (if Q n then (1 : EReal) else 0)) ↔ ∃ n, (∃ i, P i n) ∧ Q n := by
  have h0 : ∀ n, (0 : EReal) ≤ ∑ i, if P i n then (1 : EReal) else 0 := fun n =>
    Finset.sum_nonneg fun i _ => by split <;> simp
  constructor
  · intro h
    by_contra hc
    refine absurd h (not_lt.mpr (le_of_eq (Finset.sum_eq_zero fun n _ => ?_)))
    by_cases hq : Q n
    · rw [Finset.sum_eq_zero fun i _ => if_neg fun hp => hc ⟨n, ⟨i, hp⟩, hq⟩, zero_mul]
    · rw [if_neg hq, mul_zero]
  · rintro ⟨n, ⟨i, hp⟩, hq⟩
    have h1 : (1 : EReal) ≤ ∑ i, if P i n then (1 : EReal) else 0 := by
      have := Finset.single_le_sum (f := fun i => if P i n then (1 : EReal) else 0) (fun i _ => by split <;> simp) (Finset.mem_univ i)
      simpa only [if_pos hp] using this
    refine lt_of_lt_of_le (lt_of_lt_of_le zero_lt_one h1) ?_
    have := Finset.single_le_sum (f := fun n => (∑ i, if P i n then (1 : EReal) else 0) * (if Q n then (1 : EReal) else 0))
      (fun m _ => mul_nonneg (h0 m) (by split <;> simp)) (Finset.mem_univ n)
    simpa only [if_pos hq, mul_one] using this

theorem sge_word {a b : Nat} (ha : a < 2 ^ 31) (hb : b < 2 ^ 31) :
    IntOp.cmpi .sge (BitVec.ofNat 32 a) (BitVec.ofNat 32 b) = BitVec.ofBool (decide (b ≤ a)) := by
  unfold IntOp.cmpi
  simp only [BitVec.sle_eq_decide, ofNat_toInt ha, ofNat_toInt hb, Nat.cast_le]

/-- The sort's i-th position along the last axis, when the carried positions are the row's own. -/
theorem sort_at (y : FVec Ideal S1x4x2048x127 .f32) (z : IVec S1x4x2048x127 32)
    (f : Fin 127 → Fin 127 → Bool) (kv : Fin 4) (t : Fin 2048) (n : Fin 127)
    (hf : ∀ k k' : Fin 127, (FloatOps.cmpfTotal (F := Ideal) (φ := .f32) CmpDirection.gt (y (ix4 0 kv t k)) (y (ix4 0 kv t k')) == 1#1) = f k k') :
    (Host.sort2 S1x4x2048x127 3 (fun l r => FloatOps.cmpfTotal (F := Ideal) (φ := .f32) CmpDirection.gt l.1 r.1) y z).2 (ix4 0 kv t n)
      = z (ix4 0 kv t (sortedFrom f n)) := by
  refine (sort_pos y z (ix4 0 kv t n) f fun k k' => ?_).trans ?_
  · rw [along_at, along_at]; exact hf k k'
  · exact congrArg z (along_at kv t n (sortedFrom f n))

/-- The i-th block that the reference chooses. -/
theorem ref_top (kv : Fin 4) (t : Fin 2048) (i : Fin 16) :
    val_main_indices (F := Ideal) A.x0 A.x1 A.x4 A.x10 A.x11 A.x12 A.x13 A.x14 (ix4 0 kv t i)
      = BitVec.ofNat 32 (sortedFrom (gtB (pgrp A kv t)) (i.castLE (by decide))).val := by
  unfold val_main_indices
  have h1 := ref_pgrp A kv t
  generalize val_main_v128 (F := Ideal) A.x0 A.x1 A.x4 A.x10 A.x11 A.x12 A.x13 A.x14 = y at h1 ⊢
  unfold Host.topK
  pointwise
  refine (sort_at y _ (gtB (pgrp A kv t)) kv t (i.castLE (by decide)) fun k k' => ?_).trans ?_
  · rw [cmp_gt, h1, h1]
    rfl
  · generalize sortedFrom (gtB (pgrp A kv t)) (i.castLE (by decide)) = p
    rfl

/-- How many of the reference's sixteen choices are a given block. -/
theorem ref_hot (kv : Fin 4) (t : Fin 2048) (n : Fin 127) :
    val_main_v136 (F := Ideal) A.x0 A.x1 A.x4 A.x10 A.x11 A.x12 A.x13 A.x14 (ix4 0 kv t n) = ∑ i : Fin 16,
      if sortedFrom (gtB (pgrp A kv t)) (i.castLE (by decide)) = n then (1 : EReal) else 0 := by
  unfold val_main_v136 val_main_v135 val_main_v134 val_main_v133 val_main_v132 val_main_v131 val_main_v130 val_main_v129 val_main_cst_17
  have h1 := ref_top A kv t
  generalize val_main_indices (F := Ideal) A.x0 A.x1 A.x4 A.x10 A.x11 A.x12 A.x13 A.x14 = y at h1 ⊢
  pointwise
  simp only [h1]
  refine Finset.sum_congr rfl fun i _ => ?_
  rw [eq_word (by omega) (by omega), hot_word]
  simp only [decide_eq_true_eq, Fin.val_inj]

/-- Whether a token lies in a block, as 0 or 1. -/
theorem ref_member (n : Fin 127) (j : Fin 2048) :
    val_main_v151 (F := Ideal) (ix2 n j) = if n.val * 16 ≤ j.val ∧ j.val < n.val * 16 + 32 then (1 : EReal) else 0 := by
  unfold val_main_v151 val_main_v150 val_main_v149 val_main_v148 val_main_v147 val_main_v146 val_main_v145 val_main_v144 val_main_v143 val_main_v142 val_main_v141 val_main_v140 val_main_v139 val_main_v138 val_main_v137 val_main_v32 val_main_v31 val_main_v30 val_main_c val_main_c_18
  pointwise
  rw [start_word, addi_word, sge_word (by omega) (by omega), slt_word (by omega) (by omega), andi_ofBool, hot_word]
  simp only [Bool.and_eq_true, decide_eq_true_eq]

/-- The reference's sum over the blocks of choice times membership. -/
theorem ref_cov (kv : Fin 4) (t j : Fin 2048) :
    val_main_v152 (F := Ideal) A.x0 A.x1 A.x4 A.x10 A.x11 A.x12 A.x13 A.x14 (ix4 0 kv t j) = ∑ n : Fin 127,
      (∑ i : Fin 16, if sortedFrom (gtB (pgrp A kv t)) (i.castLE (by decide)) = n then (1 : EReal) else 0)
        * (if n.val * 16 ≤ j.val ∧ j.val < n.val * 16 + 32 then (1 : EReal) else 0) := by
  unfold val_main_v152
  have h1 := ref_hot A kv t
  have h2 := fun n => ref_member n j
  generalize val_main_v136 (F := Ideal) A.x0 A.x1 A.x4 A.x10 A.x11 A.x12 A.x13 A.x14 = y at h1 ⊢
  generalize val_main_v151 (F := Ideal) = z at h2 ⊢
  pointwise
  simp only [h1, h2]

/-- That sum is positive exactly when a chosen block holds the token. -/
theorem cov_iff (kv : Fin 4) (t j : Fin 2048) :
    0 < (∑ n : Fin 127, (∑ i : Fin 16, if sortedFrom (gtB (pgrp A kv t)) (i.castLE (by decide)) = n then (1 : EReal) else 0)
        * (if n.val * 16 ≤ j.val ∧ j.val < n.val * 16 + 32 then (1 : EReal) else 0)) ↔ covered A kv t j.val := by
  unfold covered picked
  exact cov_pos _ _

open Classical in
/-- The reference's mask of the selected branch: a chosen block holds the token, and the token is not later than the query. -/
theorem ref_ok (kv : Fin 4) (t j : Fin 2048) :
    val_main_v162 (F := Ideal) A.x0 A.x1 A.x4 A.x10 A.x11 A.x12 A.x13 A.x14 (ix4 0 kv t j) = BitVec.ofBool (decide (covered A kv t j.val ∧ j.val ≤ t.val)) := by
  unfold val_main_v162 val_main_v161 val_main_v160 val_main_v159 val_main_v158 val_main_v157 val_main_v156 val_main_v155 val_main_v154 val_main_v153 val_main_v137 val_main_cst_19
  have h1 := ref_cov A kv t j
  generalize val_main_v152 (F := Ideal) A.x0 A.x1 A.x4 A.x10 A.x11 A.x12 A.x13 A.x14 = y at h1 ⊢
  obtain ⟨σ, h2, h3⟩ : ∃ σ : EReal, y (ix4 0 kv t j) = σ ∧ (0 < σ ↔ covered A kv t j.val) := ⟨_, h1, cov_iff A kv t j⟩
  clear h1
  generalize covered A kv t j.val = p at h3 ⊢
  pointwise
  rw [h2, sle_word (by omega) (by omega), andi_ofBool]
  by_cases hp : p
  · simp only [eq_true (h3.mpr hp), hp, decide_true, true_and, Bool.true_and]
  · simp only [eq_false fun h => hp (h3.mp h), hp, decide_false, false_and, Bool.false_and]

end Cert.Proof
-- ==== Proof.Ref4.lean ====
/- The reference program's selected branch. -/
module

public import proofs.«01_k».proof.Proof.Ref3
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof

variable (A : Args)

/-- The selected keys by head in the reference. -/
theorem ref_kslc (kv : Fin 4) (j : Fin 2048) (d : Fin 64) :
    val_main_v163 (F := Ideal) A.x0 A.x6 (ix4 0 kv j d) = lin A.x0 A.x6 j (col kv d) := by
  unfold val_main_v163
  have h1 := ref_p6 A j kv d
  generalize val_main_v23 (F := Ideal) A.x0 A.x6 = y at h1 ⊢
  pointwise
  exact h1

/-- The selected values by head in the reference. -/
theorem ref_vslc (kv : Fin 4) (j : Fin 2048) (d : Fin 64) :
    val_main_v164 (F := Ideal) A.x0 A.x7 (ix4 0 kv j d) = lin A.x0 A.x7 j (col kv d) := by
  unfold val_main_v164
  have h1 := ref_p7 A j kv d
  generalize val_main_v25 (F := Ideal) A.x0 A.x7 = y at h1 ⊢
  pointwise
  exact h1

open Classical in
/-- The reference's masked scores of the selected branch. -/
theorem ref_selS (r : Fin 3) (kv : Fin 4) (t j : Fin 2048) :
    val_main_v172 (F := Ideal) A.x0 A.x1 A.x4 A.x6 A.x10 A.x11 A.x12 A.x13 A.x14 (ix5 0 r kv t j) = selS A r kv t j := by
  unfold val_main_v172 val_main_v171 val_main_v170 val_main_v169 val_main_v168 val_main_v167 val_main_v166 val_main_v165 val_main_cst_20 val_main_cst_21
  have h0 := ref_ok A kv t j
  have h1 := ref_kslc A kv j
  have h2 := ref_qry A r kv t
  generalize val_main_v162 (F := Ideal) A.x0 A.x1 A.x4 A.x10 A.x11 A.x12 A.x13 A.x14 = z at h0 ⊢
  generalize val_main_v163 (F := Ideal) A.x0 A.x6 = y at h1 ⊢
  generalize val_main_v97 (F := Ideal) A.x1 = q at h2 ⊢
  pointwise
  rw [h0, select_ofBool, bits_eighth, bits_ninf]
  simp only [h1, h2]
  unfold selS
  exact if_congr decide_eq_true_iff (congrArg (· * _) (Finset.sum_congr rfl fun d _ => mul_comm _ _)) rfl

/-- The maximum over the last axis of 2048, at an index. -/
theorem row_max2048 (y : FVec Ideal S1x3x4x2048x2048 .f32) (r : Fin 3) (kv : Fin 4) (t : Fin 2048) :
    Host.reduce (FloatOps.maximumf (F := Ideal) (φ := .f32)) y (constant (F := Ideal) S_ .f32 0xFF800000#32)
      reducesTo_S1x3x4x2048x2048_S1x3x4x2048_d4 h_S_ (ix4 0 r kv t) = rowMax (fun n => y (ix5 0 r kv t n)) := by
  pointwise
  rw [bits_ninf]
  rfl

/-- The maximum of a query's selected scores. -/
theorem ref_foldS (r : Fin 3) (kv : Fin 4) (t : Fin 2048) :
    val_main_v173 (F := Ideal) A.x0 A.x1 A.x4 A.x6 A.x10 A.x11 A.x12 A.x13 A.x14 (ix4 0 r kv t) = rowMax (selS A r kv t) := by
  unfold val_main_v173 val_main_cst_22
  exact (row_max2048 _ r kv t).trans (congrArg rowMax (funext fun n => ref_selS A r kv t n))

/-- The maximum that the softmax of the selected branch subtracts. -/
theorem ref_maxS (r : Fin 3) (kv : Fin 4) (t : Fin 2048) :
    val_main_v175 (F := Ideal) A.x0 A.x1 A.x4 A.x6 A.x10 A.x11 A.x12 A.x13 A.x14 (ix4 0 r kv t) = rowMax (selS A r kv t) := by
  rw [val_main_v175_apply, val_main_v174_apply, val_main_cst_23_apply, ref_foldS]
  exact max_bits _

/-- An exponential of the selected branch's softmax. -/
theorem ref_expS (r : Fin 3) (kv : Fin 4) (t : Fin 2048) (n : Fin 2048) :
    val_main_v179 (F := Ideal) A.x0 A.x1 A.x4 A.x6 A.x10 A.x11 A.x12 A.x13 A.x14 (ix5 0 r kv t n) = Ideal.exp (selS A r kv t n - rowMax (selS A r kv t)) := by
  unfold val_main_v179 val_main_v178 val_main_v177 val_main_v176
  have h1 := ref_selS A r kv t n
  have h2 := ref_maxS A r kv t
  generalize val_main_v175 (F := Ideal) A.x0 A.x1 A.x4 A.x6 A.x10 A.x11 A.x12 A.x13 A.x14 = z at h2 ⊢
  generalize val_main_v172 (F := Ideal) A.x0 A.x1 A.x4 A.x6 A.x10 A.x11 A.x12 A.x13 A.x14 = y at h1 ⊢
  pointwise
  rw [h1, h2]

/-- The sum of a query's exponentials in the selected branch. -/
theorem ref_denS (r : Fin 3) (kv : Fin 4) (t : Fin 2048) :
    val_main_v180 (F := Ideal) A.x0 A.x1 A.x4 A.x6 A.x10 A.x11 A.x12 A.x13 A.x14 (ix4 0 r kv t) = rowDen (selS A r kv t) := by
  unfold val_main_v180 val_main_cst_24 rowDen
  have h1 := ref_expS A r kv t
  generalize val_main_v179 (F := Ideal) A.x0 A.x1 A.x4 A.x6 A.x10 A.x11 A.x12 A.x13 A.x14 = y at h1 ⊢
  pointwise
  simp only [h1]

/-- A softmax weight of the selected branch. -/
theorem ref_softS (r : Fin 3) (kv : Fin 4) (t : Fin 2048) (n : Fin 2048) :
    val_main_v183 (F := Ideal) A.x0 A.x1 A.x4 A.x6 A.x10 A.x11 A.x12 A.x13 A.x14 (ix5 0 r kv t n) = soft (selS A r kv t) n := by
  unfold val_main_v183 val_main_v182 val_main_v181 soft
  have h1 := ref_expS A r kv t n
  have h2 := ref_denS A r kv t
  generalize val_main_v180 (F := Ideal) A.x0 A.x1 A.x4 A.x6 A.x10 A.x11 A.x12 A.x13 A.x14 = z at h2 ⊢
  generalize val_main_v179 (F := Ideal) A.x0 A.x1 A.x4 A.x6 A.x10 A.x11 A.x12 A.x13 A.x14 = y at h1 ⊢
  pointwise
  rw [h1, h2]

/-- The selected branch of the reference: the attention of its masked scores against its values. -/
theorem ref_outS (r : Fin 3) (kv : Fin 4) (t : Fin 2048) (d : Fin 64) :
    val_main_v186 (F := Ideal) A.x0 A.x1 A.x4 A.x6 A.x7 A.x10 A.x11 A.x12 A.x13 A.x14 (ix4 0 (head r kv) t d) = att (selS A r kv t) (fun n => lin A.x0 A.x7 n (col kv d)) := by
  unfold val_main_v186 val_main_v185 val_main_v184 head
  have h1 := ref_softS A r kv t
  have h2 := fun n => ref_vslc A kv n d
  generalize val_main_v183 (F := Ideal) A.x0 A.x1 A.x4 A.x6 A.x10 A.x11 A.x12 A.x13 A.x14 = y at h1 ⊢
  generalize val_main_v164 (F := Ideal) A.x0 A.x7 = z at h2 ⊢
  pointwise
  simp only [h1, h2]
  exact Finset.sum_congr rfl fun n _ => mul_comm _ _

end Cert.Proof
-- ==== Proof.Ref5.lean ====
/- The reference program's window branch and its result. -/
module

public import proofs.«01_k».proof.Proof.Ref4
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof

variable (A : Args)

/-- The window keys by head in the reference. -/
theorem ref_kwin (kv : Fin 4) (j : Fin 2048) (d : Fin 64) :
    val_main_v187 (F := Ideal) A.x0 A.x8 (ix4 0 kv j d) = lin A.x0 A.x8 j (col kv d) := by
  unfold val_main_v187
  have h1 := ref_p8 A j kv d
  generalize val_main_v27 (F := Ideal) A.x0 A.x8 = y at h1 ⊢
  pointwise
  exact h1

/-- The window values by head in the reference. -/
theorem ref_vwin (kv : Fin 4) (j : Fin 2048) (d : Fin 64) :
    val_main_v188 (F := Ideal) A.x0 A.x9 (ix4 0 kv j d) = lin A.x0 A.x9 j (col kv d) := by
  unfold val_main_v188
  have h1 := ref_p9 A j kv d
  generalize val_main_v29 (F := Ideal) A.x0 A.x9 = y at h1 ⊢
  pointwise
  exact h1

/-- The reference's window mask: a token not later than the query and less than 512 before it. -/
theorem ref_near (t j : Fin 2048) :
    val_main_v198 (F := Ideal) (ix2 t j) = BitVec.ofBool (decide (j.val ≤ t.val) && decide (t.val < j.val + 512)) := by
  unfold val_main_v198 val_main_v197 val_main_v196 val_main_v195 val_main_v194 val_main_v193 val_main_v192 val_main_v191 val_main_v190 val_main_v189 val_main_v137 val_main_c_25 val_main_c_26
  pointwise
  rw [sge_sub_word (by omega) (by omega), slt_sub_word (by omega) (by omega), andi_ofBool]

/-- The reference's masked scores of the window branch. -/
theorem ref_winS (r : Fin 3) (kv : Fin 4) (t j : Fin 2048) :
    val_main_v206 (F := Ideal) A.x0 A.x1 A.x8 (ix5 0 r kv t j) = winS A r kv t j := by
  unfold val_main_v206 val_main_v205 val_main_v204 val_main_v203 val_main_v202 val_main_v201 val_main_v200 val_main_v199 val_main_cst_27 val_main_cst_28
  have h0 := ref_near t j
  have h1 := ref_kwin A kv j
  have h2 := ref_qry A r kv t
  generalize val_main_v198 (F := Ideal) = z at h0 ⊢
  generalize val_main_v187 (F := Ideal) A.x0 A.x8 = y at h1 ⊢
  generalize val_main_v97 (F := Ideal) A.x1 = q at h2 ⊢
  pointwise
  rw [h0, select_ofBool, bits_eighth, bits_ninf]
  simp only [h1, h2]
  unfold winS
  simp only [Bool.and_eq_true, decide_eq_true_eq]
  exact if_congr Iff.rfl (congrArg (· * _) (Finset.sum_congr rfl fun d _ => mul_comm _ _)) rfl

/-- The maximum of a query's window scores. -/
theorem ref_foldW (r : Fin 3) (kv : Fin 4) (t : Fin 2048) :
    val_main_v207 (F := Ideal) A.x0 A.x1 A.x8 (ix4 0 r kv t) = rowMax (winS A r kv t) := by
  unfold val_main_v207 val_main_cst_29
  exact (row_max2048 _ r kv t).trans (congrArg rowMax (funext fun n => ref_winS A r kv t n))

/-- The maximum that the softmax of the window branch subtracts. -/
theorem ref_maxW (r : Fin 3) (kv : Fin 4) (t : Fin 2048) :
    val_main_v209 (F := Ideal) A.x0 A.x1 A.x8 (ix4 0 r kv t) = rowMax (winS A r kv t) := by
  rw [val_main_v209_apply, val_main_v208_apply, val_main_cst_30_apply, ref_foldW]
  exact max_bits _

/-- An exponential of the window branch's softmax. -/
theorem ref_expW (r : Fin 3) (kv : Fin 4) (t : Fin 2048) (n : Fin 2048) :
    val_main_v213 (F := Ideal) A.x0 A.x1 A.x8 (ix5 0 r kv t n) = Ideal.exp (winS A r kv t n - rowMax (winS A r kv t)) := by
  unfold val_main_v213 val_main_v212 val_main_v211 val_main_v210
  have h1 := ref_winS A r kv t n
  have h2 := ref_maxW A r kv t
  generalize val_main_v209 (F := Ideal) A.x0 A.x1 A.x8 = z at h2 ⊢
  generalize val_main_v206 (F := Ideal) A.x0 A.x1 A.x8 = y at h1 ⊢
  pointwise
  rw [h1, h2]

/-- The sum of a query's exponentials in the window branch. -/
theorem ref_denW (r : Fin 3) (kv : Fin 4) (t : Fin 2048) :
    val_main_v214 (F := Ideal) A.x0 A.x1 A.x8 (ix4 0 r kv t) = rowDen (winS A r kv t) := by
  unfold val_main_v214 val_main_cst_31 rowDen
  have h1 := ref_expW A r kv t
  generalize val_main_v213 (F := Ideal) A.x0 A.x1 A.x8 = y at h1 ⊢
  pointwise
  simp only [h1]

/-- A softmax weight of the window branch. -/
theorem ref_softW (r : Fin 3) (kv : Fin 4) (t : Fin 2048) (n : Fin 2048) :
    val_main_v217 (F := Ideal) A.x0 A.x1 A.x8 (ix5 0 r kv t n) = soft (winS A r kv t) n := by
  unfold val_main_v217 val_main_v216 val_main_v215 soft
  have h1 := ref_expW A r kv t n
  have h2 := ref_denW A r kv t
  generalize val_main_v214 (F := Ideal) A.x0 A.x1 A.x8 = z at h2 ⊢
  generalize val_main_v213 (F := Ideal) A.x0 A.x1 A.x8 = y at h1 ⊢
  pointwise
  rw [h1, h2]

/-- The window branch of the reference: the attention of its masked scores against its values. -/
theorem ref_outW (r : Fin 3) (kv : Fin 4) (t : Fin 2048) (d : Fin 64) :
    val_main_v220 (F := Ideal) A.x0 A.x1 A.x8 A.x9 (ix4 0 (head r kv) t d) = att (winS A r kv t) (fun n => lin A.x0 A.x9 n (col kv d)) := by
  unfold val_main_v220 val_main_v219 val_main_v218 head
  have h1 := ref_softW A r kv t
  have h2 := fun n => ref_vwin A kv n d
  generalize val_main_v217 (F := Ideal) A.x0 A.x1 A.x8 = y at h1 ⊢
  generalize val_main_v188 (F := Ideal) A.x0 A.x9 = z at h2 ⊢
  pointwise
  simp only [h1, h2]
  exact Finset.sum_congr rfl fun n _ => mul_comm _ _

/-- The reference program's result at an index. -/
theorem ref_result (r : Fin 3) (kv : Fin 4) (t : Fin 2048) (d : Fin 64) :
    val_main_v231 (F := Ideal) A.x0 A.x1 A.x2 A.x3 A.x4 A.x5 A.x6 A.x7 A.x8 A.x9 A.x10 A.x11 A.x12 A.x13 A.x14 A.x15 A.x16 A.x17 A.x18 (ix4 0 (head r kv) t d) = result A r kv t d := by
  unfold val_main_v231 val_main_v230 val_main_v229 val_main_v228 val_main_v227 val_main_v226 val_main_v225 val_main_v224 val_main_v223 val_main_v222 val_main_v221
  have h1 := ref_outC A r kv t d
  have h2 := ref_outS A r kv t d
  have h3 := ref_outW A r kv t d
  have g0 := ref_g0 A (head r kv) t
  have g1 := ref_g1 A (head r kv) t
  have g2 := ref_g2 A (head r kv) t
  generalize val_main_v127 (F := Ideal) A.x0 A.x1 A.x4 A.x5 A.x10 A.x11 A.x12 A.x13 A.x14 A.x15 A.x16 A.x17 A.x18 = y1 at h1 ⊢
  generalize val_main_v186 (F := Ideal) A.x0 A.x1 A.x4 A.x6 A.x7 A.x10 A.x11 A.x12 A.x13 A.x14 = y2 at h2 ⊢
  generalize val_main_v220 (F := Ideal) A.x0 A.x1 A.x8 A.x9 = y3 at h3 ⊢
  generalize val_main_v13 (F := Ideal) A.x0 A.x2 A.x3 = z0 at g0 ⊢
  generalize val_main_v15 (F := Ideal) A.x0 A.x2 A.x3 = z1 at g1 ⊢
  generalize val_main_v17 (F := Ideal) A.x0 A.x2 A.x3 = z2 at g2 ⊢
  unfold result
  generalize head r kv = h at *
  pointwise
  rw [h1, h2, h3, g0, g1, g2]

end Cert.Proof
-- ==== Proof.Value.lean ====
/- The two programs' results at their indices, and what the precondition says. -/
module

public import proofs.«01_k».proof.Defs
public import proofs.«01_k».proof.Proof.Host3
public import proofs.«01_k».proof.Proof.Equal
public import proofs.«01_k».proof.Proof.Ref5

@[expose] public section

set_option maxRecDepth 16384

noncomputable section

open Idealize.ShloMosaic Idealize.ShloMosaic.TcCoe Idealize.SL.Sem
open Cert.KernelIdeal Cert.KernelIdeal.Gen

namespace Cert.Proof

/-! ## The precondition -/

theorem pre_facts : Cert.Pre_finite.Facts where
  bcast_S_S1x2048x768 := by decide
  bcast_S_S1x12x2048x64 := by decide
  bcast_S_S768x256 := by decide
  bcast_S_S32x64 := by decide
  bcast_S_S2048x64 := by decide
  bcast_S_S64 := by decide
  bcast_S_S64x64 := by decide

theorem bits_pinf : Ideal.ofBits .f32 0x7F800000#32 = ⊤ := by
  simp [Ideal.ofBits, Ideal.ieee]

/-- An array whose absolute values all compare below infinity holds no infinity. -/
theorem fin_of {s : Shape} (hb : Cert.Pre_finite.S_.BroadcastsInDim s (![] : Fin 0 → Fin s.rank)) (x : FVec Ideal s .f32)
    (h : cmpf .olt (Host.absf x) (broadcastInDim s ![] hb (constant (F := Ideal) Cert.Pre_finite.S_ .f32 0x7F800000#32)) = fun _ => 1#1)
    (i : s.Idx) : Fin' (x i) := by
  have h1 : BitVec.ofBool (decide (max (x i : EReal) (-(x i : EReal)) < Ideal.ofBits .f32 0x7F800000#32)) = 1#1 := congrFun h i
  have h2 : max (x i : EReal) (-(x i : EReal)) < ⊤ := by
    rw [bits_pinf] at h1
    by_contra hc
    rw [decide_eq_false hc] at h1
    exact absurd h1 (by decide)
  refine ⟨fun e => ?_, fun e => ?_⟩
  · rw [e] at h2
    simp at h2
  · rw [e] at h2
    simp at h2

variable (m : (ℓ : Loc nD τ sig) → Buf (Elt Ideal) ℓ) (ρ : Dev nD → PrngReg) (c : Dev nD)

/-- Under the precondition the arguments that the scores are computed from are finite. -/
theorem args_finite (h : Cert.Pre_KernelIdeal_finite (hPre_finite := pre_facts) m) : (argsOf m c).Finite := by
  obtain ⟨h0, h1, h2, h3, h4, h5, h6, h7, h8, h9⟩ := h c
  exact ⟨fin_of _ _ h0, fin_of _ _ h1, fin_of _ _ h2, fin_of _ _ h3, fin_of _ _ h4, fin_of _ _ h5, fin_of _ _ h6,
    fin_of _ _ h7, fin_of _ _ h8, fin_of _ _ h9⟩

/-! ## The results -/

/-- The kernel program's result at an index, of finite arguments. -/
theorem kernel_result (hA : (argsOf m c).Finite) (r : Fin 3) (kv : Fin 4) (t : Fin 2048) (d : Fin 64) :
    W19 m ρ c main_v56 (ix4 0 (head r kv) t d) = result (argsOf m c) r kv t d :=
  kernel_at m ρ c r kv t d _ fun n w off hn hw h1 h2 h3 =>
    narrow_eq hA (fun i h e => keyc m ρ c kv i h e) (fun i h e => valc m ρ c kv i h e) n w off hn hw r t d h1 h2 h3

/-- The reference program's result array of the arguments. -/
def refOut (A : Args) : FVec Ideal S1x12x2048x64 .f32 :=
  Cert.ReferenceIdeal.Read.val_main_v231 (F := Ideal) A.x0 A.x1 A.x2 A.x3 A.x4 A.x5 A.x6 A.x7 A.x8 A.x9 A.x10 A.x11 A.x12 A.x13 A.x14
    A.x15 A.x16 A.x17 A.x18

/-- The kernel program's result array is the reference program's, of finite arguments. -/
theorem kernel_eq (hA : (argsOf m c).Finite) : W19 m ρ c main_v56 = refOut (argsOf m c) := by
  funext i
  obtain ⟨b, h, t, d, rfl⟩ : ∃ (b : Fin 1) (h : Fin 12) (t : Fin 2048) (d : Fin 64), i = ix4 b h t d :=
    ⟨i 0, i 1, i 2, i 3, by funext a; fin_cases a <;> rfl⟩
  obtain rfl : b = 0 := Subsingleton.elim _ _
  obtain ⟨r, kv, rfl⟩ : ∃ (r : Fin 3) (kv : Fin 4), h = head r kv :=
    ⟨⟨h.val / 4, by omega⟩, ⟨h.val % 4, by omega⟩, Fin.ext (by show h.val = h.val / 4 * 4 + h.val % 4; omega)⟩
  exact (kernel_result m ρ c hA r kv t d).trans (ref_result (argsOf m c) r kv t d).symm

end Cert.Proof
-- ==== Proof.lean ====
/- The proof of the claims: the three programs' frames, the named constants, and the equality of the two programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Value
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference program runs, keeps its arguments and leaves every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0) :=
  (θ_run (Cert.ReferenceIdeal.defs (F := Ideal)) _ _).mono
    (fun _ h => ⟨fun c => (h c).2, sem_eq_zero_of_no_sems (by decide) _⟩) (Cert.ReferenceIdeal.Value.run (F := Ideal) m g)

/-- The reference program's result, of memories that agree on the arguments. -/
theorem reference_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v231 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      = refOut (argsOf m c) := by
  rw [h0, h1, h2, h3, h4, h5, h6, h7, h8, h9, h10, h11, h12, h13, h14, h15, h16, h17, h18]
  rfl

/-- Of finite arguments the two programs' results are equal. -/
theorem equal_results : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hag
  refine ⟨fun c => Cert.KernelIdeal.Gen.W19 (F := Ideal) m g c (Proc.devRef .tc Cert.KernelIdeal.main_v56), run_value (F := Ideal) m g, ?_⟩
  refine (θ_run (Cert.ReferenceIdeal.defs (F := Ideal)) _ _).mono (fun _ h c => ?_) (Cert.ReferenceIdeal.Value.run (F := Ideal) m' g')
  refine ⟨?_, (h c).2⟩
  obtain ⟨h0, h1, h2, h3, h4, h5, h6, h7, h8, h9, h10, h11, h12, h13, h14, h15, h16, h17, h18⟩ := hag c
  refine (h c).1.trans ((Cert.ReferenceIdeal.Read.val_main_v231_eq (F := Ideal) (Idealize.ShloMosaic.StableHlo.launchContents m' c)).trans ?_)
  exact (reference_out m m' c h0 h1 h2 h3 h4 h5 h6 h7 h8 h9 h10 h11 h12 h13 h14 h15 h16 h17 h18).trans (kernel_eq m g c (args_finite m c hpre)).symm

/-- All five claims: the three frames, the kernel at the extended reals, and the equality of the results. -/
theorem claim : Cert.Claim :=
  ⟨Cert.Kernel.Gen.facts, Cert.KernelIdeal.Gen.facts, Cert.ReferenceIdeal.Gen.facts, pre_facts,
    fun m g _ => Cert.Kernel.Gen.frame (F := Bits) m g,
    fun m g _ => Cert.KernelIdeal.Gen.frame (F := Ideal) m g,
    fun m g _ => Cert.KernelIdeal.Gen.frame (F := Ideal) m g,
    fun m g _ => reference_frame m g,
    fun m g _ => reference_frame m g,
    ⟨IdealRules.named_const.statement Cert.KernelIdeal.κ "inv_sqrt2" .f32 0x3F3504F3#32 (((Real.sqrt 2)⁻¹ : ℝ) : EReal) rfl,
      IdealRules.named_const.statement Cert.KernelIdeal.κ "mask" .f32 0xCE6E6B28#32 ⊥ rfl⟩,
    equal_results⟩

end Cert.Proof

end
